-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![128, 16, 16, 64]⟩ ⟨4, ![256, 16, 16, 64]⟩ (Layout.meshBlock [2, 2, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![128, 16, 16, 64]⟩ ⟨4, ![256, 16, 16, 64]⟩ (Layout.meshBlock [2, 2, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  bcast_S_S128x16x16x64 : S_.BroadcastsInDim S128x16x16x64 (![] : Fin 0 → Fin S128x16x16x64.rank)
  bcast_S_S16 : S_.BroadcastsInDim S16 (![] : Fin 0 → Fin S16.rank)
  bcast_S_S16x128 : S_.BroadcastsInDim S16x128 (![] : Fin 0 → Fin S16x128.rank)

variable [Facts]

def fn_where {F : FTy → Type} [FloatOps F] (arg0 : IVec S16x128 1) (arg1 : IVec S16x128 1) (arg2 : IVec S_ 1) : IVec S16x128 1 :=
  let v0 : IVec S16x128 1 := broadcastInDim S16x128 ![] bcast_S_S16x128 arg2
  let v1 : IVec S16x128 1 := select arg0 arg1 v0
  v1

def fn_part1 {F : FTy → Type} [FloatOps F] (main_v5 : IVec S16x128 1) (main_v8 : IVec S16x1x16x64 1) (main_v11 : IVec S128x16x16x64 1) (main_v13 : IVec S16 1) (main_v18 : IVec S16x128 1) : IVec S16x1x16x64 1 × IVec S128x16x16x64 1 × IVec S16 1 × IVec S16x128 1 :=
  let main_c_3 : IVec S_ 1 := constantI S_ 1 1#1
  let main_v19 : IVec S16x128 1 := fn_where (F := F) main_v5 main_v18 main_c_3
  (main_v8, main_v11, main_v13, main_v19)

def fn {F : FTy → Type} [FloatOps F] (main_arg0 : FVec F S16x1x16x64 .bf16) (main_arg1 : FVec F S128x16x16x64 .bf16) (main_arg2 : FVec F S128x16x16x64 .bf16) (main_arg3 : IVec S16x128 32) (main_arg4 : IVec S16 32) : IVec S16x1x16x64 1 × IVec S128x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .bf16 := Host.absf main_arg0
  let main_cst : FVec F S_ .bf16 := constant S_ .bf16 0x7F80#16
  let main_v7 : FVec F S16x1x16x64 .bf16 := broadcastInDim S16x1x16x64 ![] bcast_S_S16x1x16x64 main_cst
  let main_v8 : IVec S16x1x16x64 1 := cmpf .olt main_v6 main_v7
  let main_v9 : FVec F S128x16x16x64 .bf16 := Host.absf main_arg1
  let main_cst_0 : FVec F S_ .bf16 := constant S_ .bf16 0x7F80#16
  let main_v10 : FVec F S128x16x16x64 .bf16 := broadcastInDim S128x16x16x64 ![] bcast_S_S128x16x16x64 main_cst_0
  let main_v11 : IVec S128x16x16x64 1 := cmpf .olt main_v9 main_v10
  let main_c : IVec S_ 32 := constantI S_ 32 1#32
  let main_v12 : IVec S16 32 := broadcastInDim S16 ![] bcast_S_S16 main_c
  let main_v13 : IVec S16 1 := cmpi .sge main_arg4 main_v12
  let main_c_1 : IVec S_ 32 := constantI S_ 32 0#32
  let main_v14 : IVec S16x128 32 := broadcastInDim S16x128 ![] bcast_S_S16x128 main_c_1
  let main_v15 : IVec S16x128 1 := cmpi .sge main_arg3 main_v14
  let main_c_2 : IVec S_ 32 := constantI S_ 32 256#32
  let main_v16 : IVec S16x128 32 := broadcastInDim S16x128 ![] bcast_S_S16x128 main_c_2
  let main_v17 : IVec S16x128 1 := cmpi .slt main_arg3 main_v16
  let main_v18 : IVec S16x128 1 := andi main_v15 main_v17
  fn_part1 (F := F) main_v5 main_v8 main_v11 main_v13 main_v18
-- ==== Pre_served_ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bcast_S_S16x1x16x64 : S_.BroadcastsInDim S16x1x16x64 (![] : Fin 0 → Fin S16x1x16x64.rank)
  bcast_S_S256x16x16x64 : S_.BroadcastsInDim S256x16x16x64 (![] : Fin 0 → Fin S256x16x16x64.rank)
  bcast_S_S16 : S_.BroadcastsInDim S16 (![] : Fin 0 → Fin S16.rank)
  bcast_S_S16x128 : S_.BroadcastsInDim S16x128 (![] : Fin 0 → Fin S16x128.rank)

variable [Facts]

def fn_where {F : FTy → Type} [FloatOps F] (arg0 : IVec S16x128 1) (arg1 : IVec S16x128 1) (arg2 : IVec S_ 1) : IVec S16x128 1 :=
  let v0 : IVec S16x128 1 := broadcastInDim S16x128 ![] bcast_S_S16x128 arg2
  let v1 : IVec S16x128 1 := select arg0 arg1 v0
  v1

def fn_part1 {F : FTy → Type} [FloatOps F] (main_v5 : IVec S16x128 1) (main_v8 : IVec S16x1x16x64 1) (main_v11 : IVec S256x16x16x64 1) (main_v13 : IVec S16 1) (main_v18 : IVec S16x128 1) : IVec S16x1x16x64 1 × IVec S256x16x16x64 1 × IVec S16 1 × IVec S16x128 1 :=
  let main_c_3 : IVec S_ 1 := constantI S_ 1 1#1
  let main_v19 : IVec S16x128 1 := fn_where (F := F) main_v5 main_v18 main_c_3
  (main_v8, main_v11, main_v13, main_v19)

def fn {F : FTy → Type} [FloatOps F] (main_arg0 : FVec F S16x1x16x64 .bf16) (main_arg1 : FVec F S256x16x16x64 .bf16) (main_arg2 : FVec F S256x16x16x64 .bf16) (main_arg3 : IVec S16x128 32) (main_arg4 : IVec S16 32) : IVec S16x1x16x64 1 × IVec S256x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .bf16 := Host.absf main_arg0
  let main_cst : FVec F S_ .bf16 := constant S_ .bf16 0x7F80#16
  let main_v7 : FVec F S16x1x16x64 .bf16 := broadcastInDim S16x1x16x64 ![] bcast_S_S16x1x16x64 main_cst
  let main_v8 : IVec S16x1x16x64 1 := cmpf .olt main_v6 main_v7
  let main_v9 : FVec F S256x16x16x64 .bf16 := Host.absf main_arg1
  let main_cst_0 : FVec F S_ .bf16 := constant S_ .bf16 0x7F80#16
  let main_v10 : FVec F S256x16x16x64 .bf16 := broadcastInDim S256x16x16x64 ![] bcast_S_S256x16x16x64 main_cst_0
  let main_v11 : IVec S256x16x16x64 1 := cmpf .olt main_v9 main_v10
  let main_c : IVec S_ 32 := constantI S_ 32 1#32
  let main_v12 : IVec S16 32 := broadcastInDim S16 ![] bcast_S_S16 main_c
  let main_v13 : IVec S16 1 := cmpi .sge main_arg4 main_v12
  let main_c_1 : IVec S_ 32 := constantI S_ 32 0#32
  let main_v14 : IVec S16x128 32 := broadcastInDim S16x128 ![] bcast_S_S16x128 main_c_1
  let main_v15 : IVec S16x128 1 := cmpi .sge main_arg3 main_v14
  let main_c_2 : IVec S_ 32 := constantI S_ 32 256#32
  let main_v16 : IVec S16x128 32 := broadcastInDim S16x128 ![] bcast_S_S16x128 main_c_2
  let main_v17 : IVec S16x128 1 := cmpi .slt main_arg3 main_v16
  let main_v18 : IVec S16x128 1 := andi main_v15 main_v17
  fn_part1 (F := F) main_v5 main_v8 main_v11 main_v13 main_v18
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S16x1 : Shape := ⟨2, ![16, 1]⟩
abbrev S16x1024 : Shape := ⟨2, ![16, 1024]⟩
abbrev S2048x1024 : Shape := ⟨2, ![2048, 1024]⟩
abbrev S2x16x16x64 : Shape := ⟨4, ![2, 16, 16, 64]⟩
abbrev S2x2x16x16 : Shape := ⟨4, ![2, 2, 16, 16]⟩
abbrev S2 : Shape := ⟨1, ![2]⟩
abbrev S16x128x1 : Shape := ⟨3, ![16, 128, 1]⟩
abbrev S16x128x128 : Shape := ⟨3, ![16, 128, 128]⟩
abbrev S16x1x1 : Shape := ⟨3, ![16, 1, 1]⟩
abbrev S128x2048 : Shape := ⟨2, ![128, 2048]⟩
abbrev S16x2048 : Shape := ⟨2, ![16, 2048]⟩
abbrev S16x64 : Shape := ⟨2, ![16, 64]⟩
abbrev S2048x64 : Shape := ⟨2, ![2048, 64]⟩
abbrev S1x1x16x64 : Shape := ⟨4, ![1, 1, 16, 64]⟩
abbrev S16x16 : Shape := ⟨2, ![16, 16]⟩
abbrev S1x1x16x16 : Shape := ⟨4, ![1, 1, 16, 16]⟩
abbrev S_ : Shape := ⟨0, ![]⟩
abbrev S1 : Shape := ⟨1, ![1]⟩
abbrev S1x16x16x64 : Shape := ⟨4, ![1, 16, 16, 64]⟩
abbrev S16x16x64 : Shape := ⟨3, ![16, 16, 64]⟩
abbrev S1x2x16x16 : Shape := ⟨4, ![1, 2, 16, 16]⟩
abbrev S2x16x16 : Shape := ⟨3, ![2, 16, 16]⟩

abbrev nBuf : Space → Nat
  | .hbm => 11
  | .vmem => 8
  | .smem => 0
  | _ => 0

abbrev bufTy : (tb : Table) → Fin (tcTables nBuf tb) → BufTy
  | .hbm, ⟨0, _⟩ => ⟨S16x1x16x64, .bf16⟩
  | .hbm, ⟨1, _⟩ => ⟨S128x16x16x64, .bf16⟩
  | .hbm, ⟨2, _⟩ => ⟨S128x16x16x64, .bf16⟩
  | .hbm, ⟨3, _⟩ => ⟨S16x128, .i32⟩
  | .hbm, ⟨4, _⟩ => ⟨S16, .i32⟩
  | .hbm, ⟨5, _⟩ => ⟨S16x1, .i32⟩
  | .hbm, ⟨6, _⟩ => ⟨S16x1024, .bf16⟩
  | .hbm, ⟨7, _⟩ => ⟨S2048x1024, .bf16⟩
  | .hbm, ⟨8, _⟩ => ⟨S2048x1024, .bf16⟩
  | .hbm, ⟨9, _⟩ => ⟨S16x1024, .f32⟩
  | .hbm, ⟨10, _⟩ => ⟨S16x1x16x64, .f32⟩
  | .local _ .vmem, ⟨0, _⟩ => ⟨S16x1024, .bf16⟩
  | .local _ .vmem, ⟨1, _⟩ => ⟨S2048x1024, .bf16⟩
  | .local _ .vmem, ⟨2, _⟩ => ⟨S2048x1024, .bf16⟩
  | .local _ .vmem, ⟨3, _⟩ => ⟨S16x128, .i32⟩
  | .local _ .vmem, ⟨4, _⟩ => ⟨S16x1, .i32⟩
  | .local _ .vmem, ⟨5, _⟩ => ⟨S16x1024, .f32⟩
  | .local _ .vmem, ⟨6, _⟩ => ⟨S2x16x16x64, .f32⟩
  | .local _ .vmem, ⟨7, _⟩ => ⟨S2x2x16x16, .f32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_142 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_141 : BitVec 32 := 8#32
  let v350 : BitVec 32 := Scalar.muli v9 c8_i32_141
  let v351 : BitVec 32 := Scalar.addi c0_i32_142 v350
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_143 : BitVec 32 := 4#32
  let v352 : BitVec 32 := Scalar.muli v5 c4_i32_143
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v354 : BitVec 32 := Scalar.muli v8 c1_i32_144
  let v355 : BitVec 32 := Scalar.addi v353 v354
  v355.toNat
def k0_dev2 (d0 : Dev nD) : Nat :=
  let c0_i32_151 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_150 : BitVec 32 := 8#32
  let v356 : BitVec 32 := Scalar.muli v9 c8_i32_150
  let v357 : BitVec 32 := Scalar.addi c0_i32_151 v356
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_152 : BitVec 32 := 4#32
  let v358 : BitVec 32 := Scalar.muli v5 c4_i32_152
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v360 : BitVec 32 := Scalar.muli v8 c1_i32_153
  let v361 : BitVec 32 := Scalar.addi v359 v360
  v361.toNat
def k0_dev3 (d0 : Dev nD) : Nat :=
  let c0_i32_165 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_164 : BitVec 32 := 8#32
  let v370 : BitVec 32 := Scalar.muli v9 c8_i32_164
  let v371 : BitVec 32 := Scalar.addi c0_i32_165 v370
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_166 : BitVec 32 := 4#32
  let v372 : BitVec 32 := Scalar.muli v5 c4_i32_166
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_167 : BitVec 32 := 1#32
  let v374 : BitVec 32 := Scalar.muli v8 c1_i32_167
  let v375 : BitVec 32 := Scalar.addi v373 v374
  v375.toNat
abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x1x16x64 : Shape := ⟨4, ![16, 1, 16, 64]⟩
abbrev S256x16x16x64 : Shape := ⟨4, ![256, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x1x2048 : Shape := ⟨4, ![16, 16, 1, 2048]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x1x1x2048 : Shape := ⟨4, ![16, 1, 1, 2048]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S256x16x16x64, .bf16⟩
  | .hbm, ⟨2, _⟩ => ⟨S256x16x16x64, .bf16⟩
  | .hbm, ⟨3, _⟩ => ⟨S16x128, .i32⟩
  | .hbm, ⟨4, _⟩ => ⟨S16, .i32⟩
  | .hbm, ⟨5, _⟩ => ⟨S16x1x16x64, .f32⟩
  | .hbm, ⟨6, _⟩ => ⟨S256x16x16x64, .f32⟩
  | .hbm, ⟨7, _⟩ => ⟨S256x16x16x64, .f32⟩
  | .hbm, ⟨8, _⟩ => ⟨S_, .i32⟩
  | .hbm, ⟨9, _⟩ => ⟨S16x128, .i32⟩
  | .hbm, ⟨10, _⟩ => ⟨S16x128, .i1⟩
  | .hbm, ⟨11, _⟩ => ⟨S_, .i32⟩
  | .hbm, ⟨12, _⟩ => ⟨S16x128, .i32⟩
  | .hbm, ⟨13, _⟩ => ⟨S16x128, .i32⟩
  | .hbm, ⟨14, _⟩ => ⟨S16x128, .i32⟩
  | .hbm, ⟨15, _⟩ => ⟨S16x128x1, .i32⟩
  | .hbm, ⟨16, _⟩ => ⟨S16x128x16x16x64, .f32⟩
  | .hbm, ⟨17, _⟩ => ⟨S16x2048x16x64, .f32⟩
  | .hbm, ⟨18, _⟩ => ⟨S_, .i32⟩
  | .hbm, ⟨19, _⟩ => ⟨S16x128, .i32⟩
  | .hbm, ⟨20, _⟩ => ⟨S16x128, .i1⟩
  | .hbm, ⟨21, _⟩ => ⟨S_, .i32⟩
  | .hbm, ⟨22, _⟩ => ⟨S16x128, .i32⟩
  | .hbm, ⟨23, _⟩ => ⟨S16x128, .i32⟩
  | .hbm, ⟨24, _⟩ => ⟨S16x128, .i32⟩
  | .hbm, ⟨25, _⟩ => ⟨S16x128x1, .i32⟩
  | .hbm, ⟨26, _⟩ => ⟨S16x128x16x16x64, .f32⟩
  | .hbm, ⟨27, _⟩ => ⟨S16x2048x16x64, .f32⟩
  | .hbm, ⟨28, _⟩ => ⟨S16x16x1x2048, .f32⟩
  | .hbm, ⟨29, _⟩ => ⟨S_, .f32⟩
  | .hbm, ⟨30, _⟩ => ⟨S16x16x1x2048, .f32⟩
  | .hbm, ⟨31, _⟩ => ⟨S16x16x1x2048, .f32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S16x1, .i32⟩
  | .hbm, ⟨53, _⟩ => ⟨S16x2048, .i32⟩
  | .hbm, ⟨54, _⟩ => ⟨S16x2048, .i32⟩
  | .hbm, ⟨55, _⟩ => ⟨S16x2048, .i1⟩
  | .hbm, ⟨56, _⟩ => ⟨S16x1x1x2048, .i1⟩
  | .hbm, ⟨57, _⟩ => ⟨S_, .f32⟩
  | .hbm, ⟨58, _⟩ => ⟨S_, .f32⟩
  | .hbm, ⟨59, _⟩ => ⟨S16x16x1x2048, .i1⟩
  | .hbm, ⟨60, _⟩ => ⟨S16x16x1x2048, .f32⟩
  | .hbm, ⟨61, _⟩ => ⟨S16x16x1x2048, .f32⟩
  | .hbm, ⟨62, _⟩ => ⟨S_, .f32⟩
  | .hbm, ⟨63, _⟩ => ⟨S16x16x1, .f32⟩
  | .hbm, ⟨64, _⟩ => ⟨S16x16x1x1, .f32⟩
  | .hbm, ⟨65, _⟩ => ⟨S16x16x1x2048, .f32⟩
  | .hbm, ⟨66, _⟩ => ⟨S16x16x1x2048, .f32⟩
  | .hbm, ⟨67, _⟩ => ⟨S16x16x1x2048, .f32⟩
  | .hbm, ⟨68, _⟩ => ⟨S_, .f32⟩
  | .hbm, ⟨69, _⟩ => ⟨S16x16x1, .f32⟩
  | .hbm, ⟨70, _⟩ => ⟨S16x16x1x1, .f32⟩
  | .hbm, ⟨71, _⟩ => ⟨S16x16x1x2048, .f32⟩
  | .hbm, ⟨72, _⟩ => ⟨S16x16x1x2048, .f32⟩
  | .hbm, ⟨73, _⟩ => ⟨S16x16x64x1, .f32⟩
  | .hbm, ⟨74, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩

abbrev nD : Nat := 1
abbrev τ : Topo := Topo.v7x

variable {F : FTy → Type} [FloatOps F]
-- ==== Proof.Heads.lean ====
/-
# The heads of the paged attention kernel: what one device computes before and after the exchange

The kernel's body writes the sixteen heads out one after another. Here each of its values is named once for every head
`h`, over the weights `w`, the scaled queries `q`, the keys `k` and the values `v` of the device: the scores, their
row maximum, the row sum of the weighted exponentials, the weighted sum of the values, and, after the exchange, the
head of the result. The two scratch buffers and the result's buffer are described after the first `n` heads are
stored, and one store takes the description from `n` to `n + 1`.
-/
module

public import proofs.«01_k».proof.Proof.Gen.KernelIdeal
public import proofs.«01_k».proof.Proof.Gen.KernelIdeal.Skeleton
public import Idealize.ShloMosaic.Lib.Pipeline.Value
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe

variable {F : FTy → Type} [FloatOps F]

/-! ## The buffers the body is handed -/

abbrev mQ : Memref sig .tc .vmem S16x1024 .bf16 := Memref.whole cc0_stg0_0
abbrev mK : Memref sig .tc .vmem S2048x1024 .bf16 := Memref.whole cc0_stg1_0
abbrev mV : Memref sig .tc .vmem S2048x1024 .bf16 := Memref.whole cc0_stg2_0
abbrev mB : Memref sig .tc .vmem S16x128 .i32 := Memref.whole cc0_stg3_0
abbrev mL : Memref sig .tc .vmem S16x1 .i32 := Memref.whole cc0_stg4_0
abbrev mO : Memref sig .tc .vmem S16x1024 .f32 := Memref.whole cc0_stg5_0
abbrev mA : Memref sig .tc .vmem S2x16x16x64 .f32 := Memref.whole cc0_scratch0
abbrev mT : Memref sig .tc .vmem S2x2x16x16 .f32 := Memref.whole cc0_scratch1
abbrev wQ : mQ.IsWhole := Memref.isWhole_whole _
abbrev wK : mK.IsWhole := Memref.isWhole_whole _
abbrev wV : mV.IsWhole := Memref.isWhole_whole _
abbrev wB : mB.IsWhole := Memref.isWhole_whole _
abbrev wL : mL.IsWhole := Memref.isWhole_whole _
abbrev wO : mO.IsWhole := Memref.isWhole_whole _
abbrev wA : mA.IsWhole := Memref.isWhole_whole _
abbrev wT : mT.IsWhole := Memref.isWhole_whole _

/-! ## One head's values -/

theorem sliceQ (h : Fin 16) : S16x1024.Slices ![0, 64 * h.val] S16x64 := by
  revert h; decide
theorem sliceK (h : Fin 16) : S2048x1024.Slices ![0, 64 * h.val] S2048x64 := by
  revert h; decide
theorem sliceC (h : Fin 16) : S16x16.Slices ![0, h.val] S16x1 := by
  revert h; decide

section
variable (w : FVec F S16x2048 .f32) (q : FVec F S16x1024 .bf16) (k v : FVec F S2048x1024 .bf16)

/-- Head `h`'s scores. -/
def hS (h : Fin 16) : FVec F S16x2048 .f32 :=
  matmul dot_S16x64_S2048x64_S16x2048_1_1_0_0_n_n none (extractStridedSlice S16x64 ![0, 64 * h.val] q (sliceQ h))
    (extractStridedSlice S2048x64 ![0, 64 * h.val] k (sliceK h)) (constant S16x2048 .f32 0x00000000#32)
/-- The row maximum of the scores, a column. -/
def hM (h : Fin 16) : FVec F S16x1 .f32 :=
  shapeCast S16x1 (multiReduction .maximumf [1] S16 (hS q k h) 0xFF800000#32 reduces_S16x2048_S16 (.inl rfl) rfl) shapeCasts_S16_S16x1
/-- The weighted exponentials. -/
def hP (h : Fin 16) : FVec F S16x2048 .f32 :=
  mulf (exp (subf (hS q k h) (broadcastTo S16x2048 (hM q k h) broadcasts_S16x1_S16x2048))) w
/-- Their row sum, a column. -/
def hL (h : Fin 16) : FVec F S16x1 .f32 :=
  shapeCast S16x1 (multiReduction .add [1] S16 (hP w q k h) 0x00000000#32 reduces_S16x2048_S16 (.inl rfl) rfl) shapeCasts_S16_S16x1
/-- The weighted sum of the values. -/
def hAcc (h : Fin 16) : FVec F S16x64 .f32 :=
  matmul dot_S16x2048_S2048x64_S16x64_1_0_0_1_n_n none (truncf .bf16 (hP w q k h) bitsLt_bf16_f32)
    (extractStridedSlice S2048x64 ![0, 64 * h.val] v (sliceK h)) (constant S16x64 .f32 0x00000000#32)
/-- It, at the shape it is stored with. -/
def hPay (h : Fin 16) : FVec F S1x1x16x64 .f32 := shapeCast S1x1x16x64 (hAcc w q k v h) shapeCasts_S16x64_S1x1x16x64

/-- The sixteen columns of row maxima side by side. -/
def allM : FVec F S16x16 .f32 :=
  concatenate S16x16 1 [⟨S16x1, hM q k 0⟩, ⟨S16x1, hM q k 1⟩, ⟨S16x1, hM q k 2⟩, ⟨S16x1, hM q k 3⟩, ⟨S16x1, hM q k 4⟩, ⟨S16x1, hM q k 5⟩,
    ⟨S16x1, hM q k 6⟩, ⟨S16x1, hM q k 7⟩, ⟨S16x1, hM q k 8⟩, ⟨S16x1, hM q k 9⟩, ⟨S16x1, hM q k 10⟩, ⟨S16x1, hM q k 11⟩, ⟨S16x1, hM q k 12⟩,
    ⟨S16x1, hM q k 13⟩, ⟨S16x1, hM q k 14⟩, ⟨S16x1, hM q k 15⟩]
    concatenates_S16x1_S16x1_S16x1_S16x1_S16x1_S16x1_S16x1_S16x1_S16x1_S16x1_S16x1_S16x1_S16x1_S16x1_S16x1_S16x1_S16x16_d1
/-- The sixteen columns of row sums side by side. -/
def allL : FVec F S16x16 .f32 :=
  concatenate S16x16 1 [⟨S16x1, hL w q k 0⟩, ⟨S16x1, hL w q k 1⟩, ⟨S16x1, hL w q k 2⟩, ⟨S16x1, hL w q k 3⟩, ⟨S16x1, hL w q k 4⟩, ⟨S16x1, hL w q k 5⟩,
    ⟨S16x1, hL w q k 6⟩, ⟨S16x1, hL w q k 7⟩, ⟨S16x1, hL w q k 8⟩, ⟨S16x1, hL w q k 9⟩, ⟨S16x1, hL w q k 10⟩, ⟨S16x1, hL w q k 11⟩, ⟨S16x1, hL w q k 12⟩,
    ⟨S16x1, hL w q k 13⟩, ⟨S16x1, hL w q k 14⟩, ⟨S16x1, hL w q k 15⟩]
    concatenates_S16x1_S16x1_S16x1_S16x1_S16x1_S16x1_S16x1_S16x1_S16x1_S16x1_S16x1_S16x1_S16x1_S16x1_S16x1_S16x1_S16x16_d1
def payM : FVec F S1x1x16x16 .f32 := shapeCast S1x1x16x16 (allM q k) shapeCasts_S16x16_S1x1x16x16
def payL : FVec F S1x1x16x16 .f32 := shapeCast S1x1x16x16 (allL w q k) shapeCasts_S16x16_S1x1x16x16

/-! ## The scratch buffers after some of the stores -/

/-- What a slot of the first scratch buffer holds when all sixteen heads are in it (the same in either slot). -/
def accFull : (cc0_scratch0 : Ref sig .tc).ty.Contents (Elt F) := fun i =>
  hPay w q k v ⟨(i 1).val, (i 1).isLt⟩ fun b => ⟨((![0, 0, (i 2).val, (i 3).val] : Fin 4 → ℕ) b), by
    have h2 : (i 2).val < 16 := (i 2).isLt
    have h3 : (i 3).val < 64 := (i 3).isLt
    fin_cases b <;> first | exact Nat.one_pos | exact h2 | exact h3⟩
/-- Its slot 0 after the first `n` heads, over what was there. -/
def acc6 (f : (cc0_scratch0 : Ref sig .tc).ty.Contents (Elt F)) (n : ℕ) : (cc0_scratch0 : Ref sig .tc).ty.Contents (Elt F) := fun i =>
  if (i 0).val = 0 ∧ (i 1).val < n then accFull w q k v i else f i

theorem acc6_zero (f : (cc0_scratch0 : Ref sig .tc).ty.Contents (Elt F)) : acc6 w q k v f 0 = f := by
  funext i; exact if_neg fun h => absurd h.2 (Nat.not_lt_zero _)

theorem acc6_store (f : (cc0_scratch0 : Ref sig .tc).ty.Contents (Elt F)) (n : ℕ) (hn : n < 16)
    (inb : ∀ a, (![0, n, 0, 0] : Fin 4 → ℕ) a + S1x1x16x64.size a ≤ S2x16x16x64.size a) :
    (mA.access (Rect.unit (s := S2x16x16x64) ![0, n, 0, 0] S1x1x16x64.size inb)).write (Elt F) (acc6 w q k v f n) (hPay w q k v ⟨n, hn⟩) Finset.univ
      = acc6 w q k v f (n + 1) := by
  refine (View.write_whole_slice_unit cc0_scratch0 ![0, n, 0, 0] S1x1x16x64.size inb (acc6 w q k v f n) (hPay w q k v ⟨n, hn⟩)).trans ?_
  funext i
  have h2 : (i 2).val < 16 := (i 2).isLt
  have h3 : (i 3).val < 64 := (i 3).isLt
  unfold updateSlice
  split
  · next hin =>
    have e0 : 0 ≤ (i 0).val ∧ (i 0).val < 0 + 1 := hin 0
    have e1 : n ≤ (i 1).val ∧ (i 1).val < n + 1 := hin 1
    have e1' : (i 1).val = n := by omega
    unfold acc6
    rw [if_pos ⟨by omega, by omega⟩]
    unfold accFull
    have eh : (⟨(i 1).val, (i 1).isLt⟩ : Fin 16) = ⟨n, hn⟩ := Fin.ext e1'
    rw [eh]
    refine congrArg (hPay w q k v ⟨n, hn⟩) (funext fun b => Fin.ext ?_)
    fin_cases b
    · show (i 0).val - 0 = 0; omega
    · show (i 1).val - n = 0; omega
    · show (i 2).val - 0 = (i 2).val; omega
    · show (i 3).val - 0 = (i 3).val; omega
  · next hout =>
    unfold acc6
    by_cases h0 : (i 0).val = 0 ∧ (i 1).val < n
    · rw [if_pos h0, if_pos ⟨h0.1, by omega⟩]
    · rw [if_neg h0, if_neg]
      rintro ⟨a0, a1⟩
      refine hout fun a => ?_
      have hn' : n = (i 1).val := by
        by_contra hne; exact h0 ⟨a0, by omega⟩
      fin_cases a
      · show 0 ≤ (i 0).val ∧ (i 0).val < 0 + 1; omega
      · show n ≤ (i 1).val ∧ (i 1).val < n + 1; omega
      · show 0 ≤ (i 2).val ∧ (i 2).val < 0 + 16; omega
      · show 0 ≤ (i 3).val ∧ (i 3).val < 0 + 64; omega

/-- What a slot of the second scratch buffer holds: the row maxima, then the row sums (the same in either slot). -/
def statFull : (cc0_scratch1 : Ref sig .tc).ty.Contents (Elt F) := fun i =>
  (if (i 1).val = 0 then payM q k else payL w q k) fun b => ⟨((![0, 0, (i 2).val, (i 3).val] : Fin 4 → ℕ) b), by
    have h2 : (i 2).val < 16 := (i 2).isLt
    have h3 : (i 3).val < 16 := (i 3).isLt
    fin_cases b <;> first | exact Nat.one_pos | exact h2 | exact h3⟩
/-- Its slot 0 after the first `n` of the two stores. -/
def stat7 (f : (cc0_scratch1 : Ref sig .tc).ty.Contents (Elt F)) (n : ℕ) : (cc0_scratch1 : Ref sig .tc).ty.Contents (Elt F) := fun i =>
  if (i 0).val = 0 ∧ (i 1).val < n then statFull w q k i else f i

theorem stat7_zero (f : (cc0_scratch1 : Ref sig .tc).ty.Contents (Elt F)) : stat7 w q k f 0 = f := by
  funext i; exact if_neg fun h => absurd h.2 (Nat.not_lt_zero _)

theorem stat7_store (f : (cc0_scratch1 : Ref sig .tc).ty.Contents (Elt F)) (n : ℕ) (p : FVec F S1x1x16x16 .f32)
    (hp : p = if n = 0 then payM q k else payL w q k)
    (inb : ∀ a, (![0, n, 0, 0] : Fin 4 → ℕ) a + S1x1x16x16.size a ≤ S2x2x16x16.size a) :
    (mT.access (Rect.unit (s := S2x2x16x16) ![0, n, 0, 0] S1x1x16x16.size inb)).write (Elt F) (stat7 w q k f n) p Finset.univ
      = stat7 w q k f (n + 1) := by
  refine (View.write_whole_slice_unit cc0_scratch1 ![0, n, 0, 0] S1x1x16x16.size inb (stat7 w q k f n) p).trans ?_
  funext i
  have h2 : (i 2).val < 16 := (i 2).isLt
  have h3 : (i 3).val < 16 := (i 3).isLt
  unfold updateSlice
  split
  · next hin =>
    have e0 : 0 ≤ (i 0).val ∧ (i 0).val < 0 + 1 := hin 0
    have e1 : n ≤ (i 1).val ∧ (i 1).val < n + 1 := hin 1
    have e1' : (i 1).val = n := by omega
    unfold stat7
    rw [if_pos ⟨by omega, by omega⟩]
    unfold statFull
    rw [hp, e1']
    refine congrArg _ (funext fun b => Fin.ext ?_)
    fin_cases b
    · show (i 0).val - 0 = 0; omega
    · show (i 1).val - n = 0; omega
    · show (i 2).val - 0 = (i 2).val; omega
    · show (i 3).val - 0 = (i 3).val; omega
  · next hout =>
    unfold stat7
    by_cases h0 : (i 0).val = 0 ∧ (i 1).val < n
    · rw [if_pos h0, if_pos ⟨h0.1, by omega⟩]
    · rw [if_neg h0, if_neg]
      rintro ⟨a0, a1⟩
      refine hout fun a => ?_
      have hn' : n = (i 1).val := by
        by_contra hne; exact h0 ⟨a0, by omega⟩
      fin_cases a
      · show 0 ≤ (i 0).val ∧ (i 0).val < 0 + 1; omega
      · show n ≤ (i 1).val ∧ (i 1).val < n + 1; omega
      · show 0 ≤ (i 2).val ∧ (i 2).val < 0 + 16; omega
      · show 0 ≤ (i 3).val ∧ (i 3).val < 0 + 16; omega

end

/-! ## One head of the result -/

theorem inbA (s : Fin 2) (h : Fin 16) (a : Fin 4) : (![s.val, h.val, 0, 0] : Fin 4 → ℕ) a + S1x1x16x64.size a ≤ S2x16x16x64.size a := by
  revert s h a; decide

section
variable (fa fb inv : FVec F S16x16 .f32) (g : (cc0_scratch0 : Ref sig .tc).ty.Contents (Elt F))

/-- Slot `s`'s head `h`, as a load reads it. -/
def ldA (s : Fin 2) (h : Fin 16) : Vec F S1x1x16x64 .f32 :=
  mA.view.readAt (Elt F) (Rect.unit (s := S2x16x16x64) ![s.val, h.val, 0, 0] S1x1x16x64.size (inbA s h)).toLoadRect g

/-- Head `h` of the result: the two partial sums joined, and the quotient. -/
def oHead (h : Fin 16) : FVec F S16x64 .f32 :=
  mulf (addf
      (mulf (shapeCast S16x64 (ldA g 0 h) shapeCasts_S1x1x16x64_S16x64)
        (broadcastTo S16x64 (extractStridedSlice S16x1 ![0, h.val] fa (sliceC h)) broadcasts_S16x1_S16x64))
      (mulf (shapeCast S16x64 (ldA g 1 h) shapeCasts_S1x1x16x64_S16x64)
        (broadcastTo S16x64 (extractStridedSlice S16x1 ![0, h.val] fb (sliceC h)) broadcasts_S16x1_S16x64)))
    (broadcastTo S16x64 (extractStridedSlice S16x1 ![0, h.val] inv (sliceC h)) broadcasts_S16x1_S16x64)

/-- The whole result. -/
def outFull : (cc0_stg5_0 : Ref sig .tc).ty.Contents (Elt F) := fun i =>
  oHead fa fb inv g ⟨(i 1).val / 64, by have h1 : (i 1).val < 1024 := (i 1).isLt; omega⟩ fun b =>
    ⟨((![(i 0).val, (i 1).val % 64] : Fin 2 → ℕ) b), by
      have h0 : (i 0).val < 16 := (i 0).isLt
      have h1 : (i 1).val % 64 < 64 := Nat.mod_lt _ (by decide)
      fin_cases b <;> first | exact h0 | exact h1⟩
/-- The result's buffer after the first `n` heads, over what was there. -/
def outUpTo (f : (cc0_stg5_0 : Ref sig .tc).ty.Contents (Elt F)) (n : ℕ) : (cc0_stg5_0 : Ref sig .tc).ty.Contents (Elt F) := fun i =>
  if (i 1).val < 64 * n then outFull fa fb inv g i else f i

theorem outUpTo_zero (f : (cc0_stg5_0 : Ref sig .tc).ty.Contents (Elt F)) : outUpTo fa fb inv g f 0 = f := by
  funext i; exact if_neg fun h => absurd h (Nat.not_lt_zero _)
theorem outUpTo_full (f : (cc0_stg5_0 : Ref sig .tc).ty.Contents (Elt F)) : outUpTo fa fb inv g f 16 = outFull fa fb inv g := by
  funext i; exact if_pos (i 1).isLt

theorem outUpTo_store (f : (cc0_stg5_0 : Ref sig .tc).ty.Contents (Elt F)) (n m : ℕ) (hn : n < 16) (hm : m = 64 * n)
    (inb : ∀ a, (![0, m] : Fin 2 → ℕ) a + S16x64.size a ≤ S16x1024.size a) :
    (mO.access (Rect.unit (s := S16x1024) ![0, m] S16x64.size inb)).write (Elt F) (outUpTo fa fb inv g f n) (oHead fa fb inv g ⟨n, hn⟩) Finset.univ
      = outUpTo fa fb inv g f (n + 1) := by
  subst hm
  refine (View.write_whole_slice_unit cc0_stg5_0 ![0, 64 * n] S16x64.size inb (outUpTo fa fb inv g f n) (oHead fa fb inv g ⟨n, hn⟩)).trans ?_
  funext i
  have h0 : (i 0).val < 16 := (i 0).isLt
  have h1 : (i 1).val < 1024 := (i 1).isLt
  unfold updateSlice
  split
  · next hin =>
    have e1 : 64 * n ≤ (i 1).val ∧ (i 1).val < 64 * n + 64 := hin 1
    have e1' : (i 1).val / 64 = n := by omega
    unfold outUpTo
    rw [if_pos (by omega)]
    unfold outFull
    have eh : (⟨(i 1).val / 64, by omega⟩ : Fin 16) = ⟨n, hn⟩ := Fin.ext e1'
    rw [eh]
    refine congrArg (oHead fa fb inv g ⟨n, hn⟩) (funext fun b => Fin.ext ?_)
    fin_cases b
    · show (i 0).val - 0 = (i 0).val; omega
    · show (i 1).val - 64 * n = (i 1).val % 64; omega
  · next hout =>
    unfold outUpTo
    by_cases hlt : (i 1).val < 64 * n
    · rw [if_pos hlt, if_pos (by omega)]
    · rw [if_neg hlt, if_neg]
      intro a1
      refine hout fun a => ?_
      fin_cases a
      · show 0 ≤ (i 0).val ∧ (i 0).val < 0 + 16; omega
      · show 64 * n ≤ (i 1).val ∧ (i 1).val < 64 * n + 64; omega

end

end Cert.Proof.KernelIdeal

end
-- ==== Proof.Steps.lean ====
/-
# The parts of the body that compute: their runs

Between the exchange's steps the body only loads and stores. Each of its printed parts is run here once, over the
values it is handed: the parts before the exchange store the heads' partial sums and the row maxima and sums, the
parts after it load both slots and store the heads of the result. A store is preceded by a load of the same block
whose value nothing reads; one step lemma covers the two.
-/
module

public import proofs.«01_k».proof.Proof.Heads
public import proofs.«01_k».proof.Proof.Gen.KernelIdeal.Launch
public import Idealize.ShloMosaic.Lib.Pipeline.Kit
public import Idealize.ShloMosaic.Lib.Pipeline.Regions
public import Idealize.ShloMosaic.Lib.Rounds
public import Idealize.ShloMosaic.Lib.Tactic

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

/-- Device `c`'s buffer `b`, held whole at `f`. -/
abbrev pt (c : Dev nD) (b : Ref sig .tc) (f : b.ty.Contents (Elt F)) : sProp 𝕄 := (Memref.whole b).view.loc (c : Thread nD τ) ↦{fullShare} f

/-- What a program's run from `c` needs for the postcondition `Q`. -/
abbrev runs {α : Type} (c : Dev nD) (p : Prog (TpuEff nD τ sig (Elt F) Λ₀ .tc) α) (Q : α → sProp 𝕄) : sProp 𝕄 :=
  wp frame (wpE (defs₀ (F := F)) 𝒱₀ c none) Set.univ p Q

theorem runs_ret {α : Type} (c : Dev nD) {a : α} {Q : α → sProp 𝕄} : Q a ⊢ runs c (.ret a) Q := by
  unfold runs
  rw [wp_ret]
  iintro H
  imodintro
  iexact H
theorem runs_ret_eq {α : Type} (c : Dev nD) {a : α} (b : α) {Q : α → sProp 𝕄} (hab : a = b) : runs c (.ret a) Q = runs c (.ret b) Q := by
  rw [hab]

/-- A load of a block of the first scratch buffer reads it and leaves it. -/
theorem load_step {α : Type} (c : Dev nD) (r : LoadRect S2x16x16x64) (g : (cc0_scratch0 : Ref sig .tc).ty.Contents (Elt F))
    (hl : mA.view.LoadsAt r) (k : Vec F r.shape .f32 → Prog (TpuEff nD τ sig (Elt F) Λ₀ .tc) α) (Q : α → sProp 𝕄) :
    pt c cc0_scratch0 g ⊢ (pt c cc0_scratch0 g -∗ runs c (k (mA.view.readAt (Elt F) r g)) Q) -∗ runs c (.op (.load mA r hl) k) Q := by
  iintro H Hk
  iapply (wp_load 𝒱₀ (c : Thread nD τ) none Set.univ (m := mA) (Finset.subset_univ _)) $$ H
  iintro H
  iapply Hk
  iexact H

section
variable (w : FVec F S16x2048 .f32) (q : FVec F S16x1024 .bf16) (k v : FVec F S2048x1024 .bf16)

/-- One head's partial sum stored (after the load of its block). -/
theorem head_step {α : Type} (c : Dev nD) (n : ℕ) (hn : n < 16) (f : (cc0_scratch0 : Ref sig .tc).ty.Contents (Elt F))
    (p : FVec F S1x1x16x64 .f32) (hp : p = hPay w q k v ⟨n, hn⟩)
    {inb : ∀ a, (![0, n, 0, 0] : Fin 4 → ℕ) a + S1x1x16x64.size a ≤ S2x16x16x64.size a}
    {hl : mA.view.LoadsAt (Rect.unit (s := S2x16x16x64) ![0, n, 0, 0] S1x1x16x64.size inb).toLoadRect}
    {hx} {hm} (P : PUnit → Prog (TpuEff nD τ sig (Elt F) Λ₀ .tc) α) (Q : α → sProp 𝕄) :
    pt c cc0_scratch0 (acc6 w q k v f n) ⊢ (pt c cc0_scratch0 (acc6 w q k v f (n + 1)) -∗ runs c (P ⟨⟩) Q) -∗
      runs c (.op (.load mA (Rect.unit (s := S2x16x16x64) ![0, n, 0, 0] S1x1x16x64.size inb).toLoadRect hl) fun _ =>
        .op (.store mA (Rect.unit (s := S2x16x16x64) ![0, n, 0, 0] S1x1x16x64.size inb) p Finset.univ hx hm) P) Q := by
  iintro H Hk
  iapply (wp_load 𝒱₀ (c : Thread nD τ) none Set.univ (m := mA) (Finset.subset_univ _)) $$ H
  iintro H
  iapply (wp_store 𝒱₀ (c : Thread nD τ) none Set.univ (m := mA) (r := Rect.unit (s := S2x16x16x64) ![0, n, 0, 0] S1x1x16x64.size inb) (Finset.subset_univ _)) $$ H
  rw [hp, acc6_store]
  iintro H
  iapply Hk
  iexact H

/-- The row maxima (`n = 0`) or the row sums (`n = 1`) stored. -/
theorem stat_step {α : Type} (c : Dev nD) (n : ℕ) (f : (cc0_scratch1 : Ref sig .tc).ty.Contents (Elt F))
    (p : FVec F S1x1x16x16 .f32) (hp : p = if n = 0 then payM q k else payL w q k)
    {inb : ∀ a, (![0, n, 0, 0] : Fin 4 → ℕ) a + S1x1x16x16.size a ≤ S2x2x16x16.size a}
    {hl : mT.view.LoadsAt (Rect.unit (s := S2x2x16x16) ![0, n, 0, 0] S1x1x16x16.size inb).toLoadRect}
    {hx} {hm} (P : PUnit → Prog (TpuEff nD τ sig (Elt F) Λ₀ .tc) α) (Q : α → sProp 𝕄) :
    pt c cc0_scratch1 (stat7 w q k f n) ⊢ (pt c cc0_scratch1 (stat7 w q k f (n + 1)) -∗ runs c (P ⟨⟩) Q) -∗
      runs c (.op (.load mT (Rect.unit (s := S2x2x16x16) ![0, n, 0, 0] S1x1x16x16.size inb).toLoadRect hl) fun _ =>
        .op (.store mT (Rect.unit (s := S2x2x16x16) ![0, n, 0, 0] S1x1x16x16.size inb) p Finset.univ hx hm) P) Q := by
  iintro H Hk
  iapply (wp_load 𝒱₀ (c : Thread nD τ) none Set.univ (m := mT) (Finset.subset_univ _)) $$ H
  iintro H
  iapply (wp_store 𝒱₀ (c : Thread nD τ) none Set.univ (m := mT) (r := Rect.unit (s := S2x2x16x16) ![0, n, 0, 0] S1x1x16x16.size inb) (Finset.subset_univ _)) $$ H
  rw [stat7_store w q k f n p hp]
  iintro H
  iapply Hk
  iexact H

end

section
variable (fa fb inv : FVec F S16x16 .f32) (g : (cc0_scratch0 : Ref sig .tc).ty.Contents (Elt F))

/-- One head of the result stored (after the load of its block). -/
theorem out_step {α : Type} (c : Dev nD) (n m : ℕ) (hn : n < 16) (hm64 : m = 64 * n) (f : (cc0_stg5_0 : Ref sig .tc).ty.Contents (Elt F))
    (p : FVec F S16x64 .f32) (hp : p = oHead fa fb inv g ⟨n, hn⟩)
    {inb : ∀ a, (![0, m] : Fin 2 → ℕ) a + S16x64.size a ≤ S16x1024.size a}
    {hl : mO.view.LoadsAt (Rect.unit (s := S16x1024) ![0, m] S16x64.size inb).toLoadRect}
    {hx} {hm} (P : PUnit → Prog (TpuEff nD τ sig (Elt F) Λ₀ .tc) α) (Q : α → sProp 𝕄) :
    pt c cc0_stg5_0 (outUpTo fa fb inv g f n) ⊢ (pt c cc0_stg5_0 (outUpTo fa fb inv g f (n + 1)) -∗ runs c (P ⟨⟩) Q) -∗
      runs c (.op (.load mO (Rect.unit (s := S16x1024) ![0, m] S16x64.size inb).toLoadRect hl) fun _ =>
        .op (.store mO (Rect.unit (s := S16x1024) ![0, m] S16x64.size inb) p Finset.univ hx hm) P) Q := by
  iintro H Hk
  iapply (wp_load 𝒱₀ (c : Thread nD τ) none Set.univ (m := mO) (Finset.subset_univ _)) $$ H
  iintro H
  iapply (wp_store 𝒱₀ (c : Thread nD τ) none Set.univ (m := mO) (r := Rect.unit (s := S16x1024) ![0, m] S16x64.size inb) (Finset.subset_univ _)) $$ H
  rw [hp, outUpTo_store fa fb inv g f n m hn hm64]
  iintro H
  iapply Hk
  iexact H

end

/-! ## The parts before the exchange -/

section
variable (w : FVec F S16x2048 .f32) (q : FVec F S16x1024 .bf16) (k v : FVec F S2048x1024 .bf16)

theorem run_part3 (c : Dev nD) (f : (cc0_scratch0 : Ref sig .tc).ty.Contents (Elt F)) (Q : _ → sProp 𝕄) :
    pt c cc0_scratch0 (acc6 w q k v f 0) ⊢ (pt c cc0_scratch0 (acc6 w q k v f 3) -∗ Q ⟨hM q k 1, hL w q k 1, hM q k 2, hL w q k 2, k0_pay25 q k⟩) -∗
      runs c (k0_part3 (F := F) mQ wQ mK wK mV wV mB wB mL wL mO wO mA wA mT wT cc0_scratch2 cc0_scratch3 w q k v (hAcc w q k v 0)) Q := by
  rw [k0_part3_eq_skeleton]
  unfold k0_part3_skel
  simp only [Prog.lift, Prog.bind_op, Prog.bind_ret, Prog.pure_eq_ret]
  iintro H Hk
  iapply (head_step w q k v c 0 (by decide) f _ rfl) $$ H
  iintro H
  iapply (head_step w q k v c 1 (by decide) f _ rfl) $$ H
  iintro H
  iapply (head_step w q k v c 2 (by decide) f _ rfl) $$ H
  iintro H
  rw [runs_ret_eq c ⟨hM q k 1, hL w q k 1, hM q k 2, hL w q k 2, k0_pay25 q k⟩]; rotate_left; · rfl
  iapply (runs_ret c)
  iapply Hk
  iexact H

theorem run_part4 (c : Dev nD) (f : (cc0_scratch0 : Ref sig .tc).ty.Contents (Elt F)) (Q : _ → sProp 𝕄) :
    pt c cc0_scratch0 (acc6 w q k v f 3) ⊢ (pt c cc0_scratch0 (acc6 w q k v f 5) -∗ Q ⟨hM q k 3, hL w q k 3, hM q k 4, hL w q k 4, hM q k 5, k0_pay37 w q k⟩) -∗
      runs c (k0_part4 (F := F) mQ wQ mK wK mV wV mB wB mL wL mO wO mA wA mT wT cc0_scratch2 cc0_scratch3 w q k v (k0_pay25 q k)) Q := by
  rw [k0_part4_eq_skeleton]
  unfold k0_part4_skel
  simp only [Prog.lift, Prog.bind_op, Prog.bind_ret, Prog.pure_eq_ret]
  iintro H Hk
  iapply (head_step w q k v c 3 (by decide) f _ rfl) $$ H
  iintro H
  iapply (head_step w q k v c 4 (by decide) f _ rfl) $$ H
  iintro H
  rw [runs_ret_eq c ⟨hM q k 3, hL w q k 3, hM q k 4, hL w q k 4, hM q k 5, k0_pay37 w q k⟩]; rotate_left; · rfl
  iapply (runs_ret c)
  iapply Hk
  iexact H

theorem run_part5 (c : Dev nD) (f : (cc0_scratch0 : Ref sig .tc).ty.Contents (Elt F)) (Q : _ → sProp 𝕄) :
    pt c cc0_scratch0 (acc6 w q k v f 5) ⊢ (pt c cc0_scratch0 (acc6 w q k v f 7) -∗ Q ⟨hL w q k 5, hM q k 6, hL w q k 6, hM q k 7, hL w q k 7, hAcc w q k v 7⟩) -∗
      runs c (k0_part5 (F := F) mQ wQ mK wK mV wV mB wB mL wL mO wO mA wA mT wT cc0_scratch2 cc0_scratch3 w q k v (k0_pay37 w q k)) Q := by
  rw [k0_part5_eq_skeleton]
  unfold k0_part5_skel
  simp only [Prog.lift, Prog.bind_op, Prog.bind_ret, Prog.pure_eq_ret]
  iintro H Hk
  iapply (head_step w q k v c 5 (by decide) f _ rfl) $$ H
  iintro H
  iapply (head_step w q k v c 6 (by decide) f _ rfl) $$ H
  iintro H
  rw [runs_ret_eq c ⟨hL w q k 5, hM q k 6, hL w q k 6, hM q k 7, hL w q k 7, hAcc w q k v 7⟩]; rotate_left; · rfl
  iapply (runs_ret c)
  iapply Hk
  iexact H

theorem run_part6 (c : Dev nD) (f : (cc0_scratch0 : Ref sig .tc).ty.Contents (Elt F)) (Q : _ → sProp 𝕄) :
    pt c cc0_scratch0 (acc6 w q k v f 7) ⊢ (pt c cc0_scratch0 (acc6 w q k v f 10) -∗ Q ⟨hM q k 8, hL w q k 8, hM q k 9, hL w q k 9, k0_pay61 q, k0_pay62 k⟩) -∗
      runs c (k0_part6 (F := F) mQ wQ mK wK mV wV mB wB mL wL mO wO mA wA mT wT cc0_scratch2 cc0_scratch3 w q k v (hAcc w q k v 7)) Q := by
  rw [k0_part6_eq_skeleton]
  unfold k0_part6_skel
  simp only [Prog.lift, Prog.bind_op, Prog.bind_ret, Prog.pure_eq_ret]
  iintro H Hk
  iapply (head_step w q k v c 7 (by decide) f _ rfl) $$ H
  iintro H
  iapply (head_step w q k v c 8 (by decide) f _ rfl) $$ H
  iintro H
  iapply (head_step w q k v c 9 (by decide) f _ rfl) $$ H
  iintro H
  rw [runs_ret_eq c ⟨hM q k 8, hL w q k 8, hM q k 9, hL w q k 9, k0_pay61 q, k0_pay62 k⟩]; rotate_left; · rfl
  iapply (runs_ret c)
  iapply Hk
  iexact H

theorem run_part7 (c : Dev nD) (f : (cc0_scratch0 : Ref sig .tc).ty.Contents (Elt F)) (Q : _ → sProp 𝕄) :
    pt c cc0_scratch0 (acc6 w q k v f 10) ⊢ (pt c cc0_scratch0 (acc6 w q k v f 12) -∗ Q ⟨hM q k 10, hL w q k 10, hM q k 11, hL w q k 11, hM q k 12, k0_pay75 q k⟩) -∗
      runs c (k0_part7 (F := F) mQ wQ mK wK mV wV mB wB mL wL mO wO mA wA mT wT cc0_scratch2 cc0_scratch3 w q k v (k0_pay61 q) (k0_pay62 k)) Q := by
  rw [k0_part7_eq_skeleton]
  unfold k0_part7_skel
  simp only [Prog.lift, Prog.bind_op, Prog.bind_ret, Prog.pure_eq_ret]
  iintro H Hk
  iapply (head_step w q k v c 10 (by decide) f _ rfl) $$ H
  iintro H
  iapply (head_step w q k v c 11 (by decide) f _ rfl) $$ H
  iintro H
  rw [runs_ret_eq c ⟨hM q k 10, hL w q k 10, hM q k 11, hL w q k 11, hM q k 12, k0_pay75 q k⟩]; rotate_left; · rfl
  iapply (runs_ret c)
  iapply Hk
  iexact H

theorem run_part8 (c : Dev nD) (f : (cc0_scratch0 : Ref sig .tc).ty.Contents (Elt F)) (Q : _ → sProp 𝕄) :
    pt c cc0_scratch0 (acc6 w q k v f 12) ⊢ (pt c cc0_scratch0 (acc6 w q k v f 14) -∗ Q ⟨hL w q k 12, hM q k 13, hL w q k 13, hM q k 14, hL w q k 14, hAcc w q k v 14⟩) -∗
      runs c (k0_part8 (F := F) mQ wQ mK wK mV wV mB wB mL wL mO wO mA wA mT wT cc0_scratch2 cc0_scratch3 w q k v (k0_pay75 q k)) Q := by
  rw [k0_part8_eq_skeleton]
  unfold k0_part8_skel
  simp only [Prog.lift, Prog.bind_op, Prog.bind_ret, Prog.pure_eq_ret]
  iintro H Hk
  iapply (head_step w q k v c 12 (by decide) f _ rfl) $$ H
  iintro H
  iapply (head_step w q k v c 13 (by decide) f _ rfl) $$ H
  iintro H
  rw [runs_ret_eq c ⟨hL w q k 12, hM q k 13, hL w q k 13, hM q k 14, hL w q k 14, hAcc w q k v 14⟩]; rotate_left; · rfl
  iapply (runs_ret c)
  iapply Hk
  iexact H

theorem run_part9 (c : Dev nD) (v5 v9 : BitVec 32) (f : (cc0_scratch0 : Ref sig .tc).ty.Contents (Elt F))
    (f' : (cc0_scratch1 : Ref sig .tc).ty.Contents (Elt F)) (Q : _ → sProp 𝕄) :
    iprop(pt c cc0_scratch0 (acc6 w q k v f 14) ∗ pt c cc0_scratch1 f') ⊢
      ((pt c cc0_scratch0 (acc6 w q k v f 16) ∗ pt c cc0_scratch1 (stat7 w q k f' 2)) -∗
        Q ⟨SemArray.scalar (sig.barrier 0 rfl), Scalar.addi 0#32 (Scalar.muli v9 8#32), Scalar.muli v5 4#32⟩) -∗
      runs c (k0_part9 (F := F) mQ wQ mK wK mV wV mB wB mL wL mO wO mA wA mT wT cc0_scratch2 cc0_scratch3 v5 v9 w q k v
        (hM q k 0) (hL w q k 0) (hM q k 1) (hL w q k 1) (hM q k 2) (hL w q k 2) (hM q k 3) (hL w q k 3) (hM q k 4) (hL w q k 4) (hM q k 5) (hL w q k 5) (hM q k 6) (hL w q k 6) (hM q k 7) (hL w q k 7) (hM q k 8) (hL w q k 8) (hM q k 9) (hL w q k 9) (hM q k 10) (hL w q k 10) (hM q k 11) (hL w q k 11) (hM q k 12) (hL w q k 12) (hM q k 13) (hL w q k 13) (hM q k 14) (hL w q k 14) (hAcc w q k v 14)) Q := by
  rw [k0_part9_eq_skeleton]
  unfold k0_part9_skel
  simp only [Prog.lift, Prog.bind_op, Prog.bind_ret, Prog.pure_eq_ret]
  iintro ⟨H, H'⟩ Hk
  iapply (head_step w q k v c 14 (by decide) f _ rfl) $$ H
  iintro H
  iapply (head_step w q k v c 15 (by decide) f _ rfl) $$ H
  iintro H
  irename H' => H2
  iapply (stat_step w q k c 0 f' _ rfl) $$ [H2]
  · rw [stat7_zero]; iexact H2
  iintro H2
  iapply (stat_step w q k c 1 f' _ rfl) $$ H2
  iintro H2
  rw [runs_ret_eq c ⟨SemArray.scalar (sig.barrier 0 rfl), Scalar.addi 0#32 (Scalar.muli v9 8#32), Scalar.muli v5 4#32⟩]; rotate_left; · rfl
  iapply (runs_ret c)
  iapply Hk
  isplitl [H]
  · iexact H
  · iexact H2

end

/-! ## The parts after the exchange -/

section
variable (fa fb inv : FVec F S16x16 .f32) (g : (cc0_scratch0 : Ref sig .tc).ty.Contents (Elt F))

theorem run_part13 (c : Dev nD) (m l m' l' : FVec F S16x16 .f32) (f : (cc0_stg5_0 : Ref sig .tc).ty.Contents (Elt F)) (Q : _ → sProp 𝕄) :
    iprop(pt c cc0_scratch0 g ∗ pt c cc0_stg5_0 f) ⊢
      ((pt c cc0_scratch0 g ∗ pt c cc0_stg5_0 (outUpTo (k0_pay101 m m') (k0_pay102 m m') (k0_pay103 m l m' l') g f 1)) -∗
        Q ⟨k0_pay101 m m', k0_pay102 m m', k0_pay103 m l m' l', oHead (k0_pay101 m m') (k0_pay102 m m') (k0_pay103 m l m' l') g 1⟩) -∗
      runs c (k0_part13 (F := F) mQ wQ mK wK mV wV mB wB mL wL mO wO mA wA mT wT cc0_scratch2 cc0_scratch3 m l m' l') Q := by
  rw [k0_part13_eq_skeleton]
  unfold k0_part13_skel
  simp only [Prog.lift, Prog.bind_op, Prog.bind_ret, Prog.pure_eq_ret]
  iintro ⟨HA, HO⟩ Hk
  iapply (load_step c _ g _ _ _) $$ HA
  iintro HA
  iapply (load_step c _ g _ _ _) $$ HA
  iintro HA
  iapply (out_step (k0_pay101 m m') (k0_pay102 m m') (k0_pay103 m l m' l') g c 0 0 (by decide) rfl f _ rfl) $$ [HO]
  · rw [outUpTo_zero]; iexact HO
  iintro HO
  iapply (load_step c _ g _ _ _) $$ HA
  iintro HA
  iapply (load_step c _ g _ _ _) $$ HA
  iintro HA
  rw [runs_ret_eq c ⟨k0_pay101 m m', k0_pay102 m m', k0_pay103 m l m' l', oHead (k0_pay101 m m') (k0_pay102 m m') (k0_pay103 m l m' l') g 1⟩]; rotate_left; · rfl
  iapply (runs_ret c)
  iapply Hk
  isplitl [HA]
  · iexact HA
  · iexact HO

theorem run_part14 (c : Dev nD) (f : (cc0_stg5_0 : Ref sig .tc).ty.Contents (Elt F)) (Q : _ → sProp 𝕄) :
    iprop(pt c cc0_scratch0 g ∗ pt c cc0_stg5_0 (outUpTo fa fb inv g f 1)) ⊢
      ((pt c cc0_scratch0 g ∗ pt c cc0_stg5_0 (outUpTo fa fb inv g f 4)) -∗ Q (ldA g 0 4)) -∗
      runs c (k0_part14 (F := F) mQ wQ mK wK mV wV mB wB mL wL mO wO mA wA mT wT cc0_scratch2 cc0_scratch3 fa fb inv (oHead fa fb inv g 1)) Q := by
  rw [k0_part14_eq_skeleton]
  unfold k0_part14_skel
  simp only [Prog.lift, Prog.bind_op, Prog.bind_ret, Prog.pure_eq_ret]
  iintro ⟨HA, HO⟩ Hk
  iapply (out_step fa fb inv g c 1 64 (by decide) rfl f _ rfl) $$ HO
  iintro HO
  iapply (load_step c _ g _ _ _) $$ HA
  iintro HA
  iapply (load_step c _ g _ _ _) $$ HA
  iintro HA
  iapply (out_step fa fb inv g c 2 128 (by decide) rfl f _ rfl) $$ HO
  iintro HO
  iapply (load_step c _ g _ _ _) $$ HA
  iintro HA
  iapply (load_step c _ g _ _ _) $$ HA
  iintro HA
  iapply (out_step fa fb inv g c 3 192 (by decide) rfl f _ rfl) $$ HO
  iintro HO
  iapply (load_step c _ g _ _ _) $$ HA
  iintro HA
  rw [runs_ret_eq c (ldA g 0 4)]; rotate_left; · rfl
  iapply (runs_ret c)
  iapply Hk
  isplitl [HA]
  · iexact HA
  · iexact HO

theorem run_part15 (c : Dev nD) (f : (cc0_stg5_0 : Ref sig .tc).ty.Contents (Elt F)) (Q : _ → sProp 𝕄) :
    iprop(pt c cc0_scratch0 g ∗ pt c cc0_stg5_0 (outUpTo fa fb inv g f 4)) ⊢
      ((pt c cc0_scratch0 g ∗ pt c cc0_stg5_0 (outUpTo fa fb inv g f 6)) -∗ Q (k0_pay110 fa (ldA g 0 6))) -∗
      runs c (k0_part15 (F := F) mQ wQ mK wK mV wV mB wB mL wL mO wO mA wA mT wT cc0_scratch2 cc0_scratch3 fa fb inv (ldA g 0 4)) Q := by
  rw [k0_part15_eq_skeleton]
  unfold k0_part15_skel
  simp only [Prog.lift, Prog.bind_op, Prog.bind_ret, Prog.pure_eq_ret]
  iintro ⟨HA, HO⟩ Hk
  iapply (load_step c _ g _ _ _) $$ HA
  iintro HA
  iapply (out_step fa fb inv g c 4 256 (by decide) rfl f _ rfl) $$ HO
  iintro HO
  iapply (load_step c _ g _ _ _) $$ HA
  iintro HA
  iapply (load_step c _ g _ _ _) $$ HA
  iintro HA
  iapply (out_step fa fb inv g c 5 320 (by decide) rfl f _ rfl) $$ HO
  iintro HO
  iapply (load_step c _ g _ _ _) $$ HA
  iintro HA
  rw [runs_ret_eq c (k0_pay110 fa (ldA g 0 6))]; rotate_left; · rfl
  iapply (runs_ret c)
  iapply Hk
  isplitl [HA]
  · iexact HA
  · iexact HO

theorem run_part16 (c : Dev nD) (f : (cc0_stg5_0 : Ref sig .tc).ty.Contents (Elt F)) (Q : _ → sProp 𝕄) :
    iprop(pt c cc0_scratch0 g ∗ pt c cc0_stg5_0 (outUpTo fa fb inv g f 6)) ⊢
      ((pt c cc0_scratch0 g ∗ pt c cc0_stg5_0 (outUpTo fa fb inv g f 8)) -∗ Q ⟨k0_pay113 fa fb (ldA g 0 8) (ldA g 1 8), k0_pay114 inv⟩) -∗
      runs c (k0_part16 (F := F) mQ wQ mK wK mV wV mB wB mL wL mO wO mA wA mT wT cc0_scratch2 cc0_scratch3 fa fb inv (k0_pay110 fa (ldA g 0 6))) Q := by
  rw [k0_part16_eq_skeleton]
  unfold k0_part16_skel
  simp only [Prog.lift, Prog.bind_op, Prog.bind_ret, Prog.pure_eq_ret]
  iintro ⟨HA, HO⟩ Hk
  iapply (load_step c _ g _ _ _) $$ HA
  iintro HA
  iapply (out_step fa fb inv g c 6 384 (by decide) rfl f _ rfl) $$ HO
  iintro HO
  iapply (load_step c _ g _ _ _) $$ HA
  iintro HA
  iapply (load_step c _ g _ _ _) $$ HA
  iintro HA
  iapply (out_step fa fb inv g c 7 448 (by decide) rfl f _ rfl) $$ HO
  iintro HO
  iapply (load_step c _ g _ _ _) $$ HA
  iintro HA
  iapply (load_step c _ g _ _ _) $$ HA
  iintro HA
  rw [runs_ret_eq c ⟨k0_pay113 fa fb (ldA g 0 8) (ldA g 1 8), k0_pay114 inv⟩]; rotate_left; · rfl
  iapply (runs_ret c)
  iapply Hk
  isplitl [HA]
  · iexact HA
  · iexact HO

theorem run_part17 (c : Dev nD) (f : (cc0_stg5_0 : Ref sig .tc).ty.Contents (Elt F)) (Q : _ → sProp 𝕄) :
    iprop(pt c cc0_scratch0 g ∗ pt c cc0_stg5_0 (outUpTo fa fb inv g f 8)) ⊢
      ((pt c cc0_scratch0 g ∗ pt c cc0_stg5_0 (outUpTo fa fb inv g f 11)) -∗ Q ⟨⟩) -∗
      runs c (k0_part17 (F := F) mQ wQ mK wK mV wV mB wB mL wL mO wO mA wA mT wT cc0_scratch2 cc0_scratch3 fa fb inv (k0_pay113 fa fb (ldA g 0 8) (ldA g 1 8)) (k0_pay114 inv)) Q := by
  rw [k0_part17_eq_skeleton]
  unfold k0_part17_skel
  simp only [Prog.lift, Prog.bind_op, Prog.bind_ret, Prog.pure_eq_ret]
  iintro ⟨HA, HO⟩ Hk
  iapply (out_step fa fb inv g c 8 512 (by decide) rfl f _ rfl) $$ HO
  iintro HO
  iapply (load_step c _ g _ _ _) $$ HA
  iintro HA
  iapply (load_step c _ g _ _ _) $$ HA
  iintro HA
  iapply (out_step fa fb inv g c 9 576 (by decide) rfl f _ rfl) $$ HO
  iintro HO
  iapply (load_step c _ g _ _ _) $$ HA
  iintro HA
  iapply (load_step c _ g _ _ _) $$ HA
  iintro HA
  iapply (out_step fa fb inv g c 10 640 (by decide) rfl f _ rfl) $$ HO
  iintro HO
  rw [runs_ret_eq c ⟨⟩]; rotate_left; · rfl
  iapply (runs_ret c)
  iapply Hk
  isplitl [HA]
  · iexact HA
  · iexact HO

theorem run_part18 (c : Dev nD) (f : (cc0_stg5_0 : Ref sig .tc).ty.Contents (Elt F)) (Q : _ → sProp 𝕄) :
    iprop(pt c cc0_scratch0 g ∗ pt c cc0_stg5_0 (outUpTo fa fb inv g f 11)) ⊢
      ((pt c cc0_scratch0 g ∗ pt c cc0_stg5_0 (outUpTo fa fb inv g f 13)) -∗ Q (k0_pay120 fa (ldA g 0 13))) -∗
      runs c (k0_part18 (F := F) mQ wQ mK wK mV wV mB wB mL wL mO wO mA wA mT wT cc0_scratch2 cc0_scratch3 fa fb inv ) Q := by
  rw [k0_part18_eq_skeleton]
  unfold k0_part18_skel
  simp only [Prog.lift, Prog.bind_op, Prog.bind_ret, Prog.pure_eq_ret]
  iintro ⟨HA, HO⟩ Hk
  iapply (load_step c _ g _ _ _) $$ HA
  iintro HA
  iapply (load_step c _ g _ _ _) $$ HA
  iintro HA
  iapply (out_step fa fb inv g c 11 704 (by decide) rfl f _ rfl) $$ HO
  iintro HO
  iapply (load_step c _ g _ _ _) $$ HA
  iintro HA
  iapply (load_step c _ g _ _ _) $$ HA
  iintro HA
  iapply (out_step fa fb inv g c 12 768 (by decide) rfl f _ rfl) $$ HO
  iintro HO
  iapply (load_step c _ g _ _ _) $$ HA
  iintro HA
  rw [runs_ret_eq c (k0_pay120 fa (ldA g 0 13))]; rotate_left; · rfl
  iapply (runs_ret c)
  iapply Hk
  isplitl [HA]
  · iexact HA
  · iexact HO

theorem run_part19 (c : Dev nD) (f : (cc0_stg5_0 : Ref sig .tc).ty.Contents (Elt F)) (Q : _ → sProp 𝕄) :
    iprop(pt c cc0_scratch0 g ∗ pt c cc0_stg5_0 (outUpTo fa fb inv g f 13)) ⊢
      ((pt c cc0_scratch0 g ∗ pt c cc0_stg5_0 (outUpTo fa fb inv g f 15)) -∗ Q (k0_pay123 fa fb (ldA g 0 15) (ldA g 1 15))) -∗
      runs c (k0_part19 (F := F) mQ wQ mK wK mV wV mB wB mL wL mO wO mA wA mT wT cc0_scratch2 cc0_scratch3 fa fb inv (k0_pay120 fa (ldA g 0 13))) Q := by
  rw [k0_part19_eq_skeleton]
  unfold k0_part19_skel
  simp only [Prog.lift, Prog.bind_op, Prog.bind_ret, Prog.pure_eq_ret]
  iintro ⟨HA, HO⟩ Hk
  iapply (load_step c _ g _ _ _) $$ HA
  iintro HA
  iapply (out_step fa fb inv g c 13 832 (by decide) rfl f _ rfl) $$ HO
  iintro HO
  iapply (load_step c _ g _ _ _) $$ HA
  iintro HA
  iapply (load_step c _ g _ _ _) $$ HA
  iintro HA
  iapply (out_step fa fb inv g c 14 896 (by decide) rfl f _ rfl) $$ HO
  iintro HO
  iapply (load_step c _ g _ _ _) $$ HA
  iintro HA
  iapply (load_step c _ g _ _ _) $$ HA
  iintro HA
  rw [runs_ret_eq c (k0_pay123 fa fb (ldA g 0 15) (ldA g 1 15))]; rotate_left; · rfl
  iapply (runs_ret c)
  iapply Hk
  isplitl [HA]
  · iexact HA
  · iexact HO

end

end Cert.Proof.KernelIdeal

end
-- ==== Proof.Slots.lean ====
/-
# The two slots of each scratch buffer

Each scratch buffer has two slots along its first axis: slot 0 holds what the device computed, slot 1 receives what
its peer sent. A copy goes from slot 0 of one device to slot 1 of the other. Contents that do not depend on the first
axis land as they are; the two slots together are the whole buffer.
-/
module

public import proofs.«01_k».proof.Proof.Steps

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots as views -/

abbrev a0 : Memref sig .tc .vmem S16x16x64 .f32 :=
  (mA.slice (Rect.unit (s := S2x16x16x64) ![0, 0, 0, 0] S1x16x16x64.size inb_S2x16x16x64_S1x16x16x64_0_0_0_0) (fun _ => rfl)).squeeze S16x16x64 squeezes_S1x16x16x64_S16x16x64
abbrev a1 : Memref sig .tc .vmem S16x16x64 .f32 :=
  (mA.slice (Rect.unit (s := S2x16x16x64) ![1, 0, 0, 0] S1x16x16x64.size inb_S2x16x16x64_S1x16x16x64_1_0_0_0) (fun _ => rfl)).squeeze S16x16x64 squeezes_S1x16x16x64_S16x16x64
abbrev t0 : Memref sig .tc .vmem S2x16x16 .f32 :=
  (mT.slice (Rect.unit (s := S2x2x16x16) ![0, 0, 0, 0] S1x2x16x16.size inb_S2x2x16x16_S1x2x16x16_0_0_0_0) (fun _ => rfl)).squeeze S2x16x16 squeezes_S1x2x16x16_S2x16x16
abbrev t1 : Memref sig .tc .vmem S2x16x16 .f32 :=
  (mT.slice (Rect.unit (s := S2x2x16x16) ![1, 0, 0, 0] S1x2x16x16.size inb_S2x2x16x16_S1x2x16x16_1_0_0_0) (fun _ => rfl)).squeeze S2x16x16 squeezes_S1x2x16x16_S2x16x16

abbrev RA (s : ℕ) (h : ∀ a, (![s, 0, 0, 0] : Fin 4 → ℕ) a + S1x16x16x64.size a ≤ S2x16x16x64.size a) : Rect S2x16x16x64 :=
  Rect.unit (s := S2x16x16x64) ![s, 0, 0, 0] S1x16x16x64.size h
abbrev RT (s : ℕ) (h : ∀ a, (![s, 0, 0, 0] : Fin 4 → ℕ) a + S1x2x16x16.size a ≤ S2x2x16x16.size a) : Rect S2x2x16x16 :=
  Rect.unit (s := S2x2x16x16) ![s, 0, 0, 0] S1x2x16x16.size h

theorem mem_RA (s : ℕ) (h) (i : S2x16x16x64.Idx) : i ∈ (RA s h).set ↔ (i 0).val = s := by
  rw [Rect.mem_set_unit]
  have h1 : (i 1).val < 16 := (i 1).isLt
  have h2 : (i 2).val < 16 := (i 2).isLt
  have h3 : (i 3).val < 64 := (i 3).isLt
  constructor
  · intro hi
    have h0 : s ≤ (i 0).val ∧ (i 0).val < s + 1 := hi 0
    omega
  · intro hi a
    fin_cases a
    · show s ≤ (i 0).val ∧ (i 0).val < s + 1; omega
    · show 0 ≤ (i 1).val ∧ (i 1).val < 0 + 16; omega
    · show 0 ≤ (i 2).val ∧ (i 2).val < 0 + 16; omega
    · show 0 ≤ (i 3).val ∧ (i 3).val < 0 + 64; omega
theorem mem_RT (s : ℕ) (h) (i : S2x2x16x16.Idx) : i ∈ (RT s h).set ↔ (i 0).val = s := by
  rw [Rect.mem_set_unit]
  have h1 : (i 1).val < 2 := (i 1).isLt
  have h2 : (i 2).val < 16 := (i 2).isLt
  have h3 : (i 3).val < 16 := (i 3).isLt
  constructor
  · intro hi
    have h0 : s ≤ (i 0).val ∧ (i 0).val < s + 1 := hi 0
    omega
  · intro hi a
    fin_cases a
    · show s ≤ (i 0).val ∧ (i 0).val < s + 1; omega
    · show 0 ≤ (i 1).val ∧ (i 1).val < 0 + 2; omega
    · show 0 ≤ (i 2).val ∧ (i 2).val < 0 + 16; omega
    · show 0 ≤ (i 3).val ∧ (i 3).val < 0 + 16; omega

theorem a0_set : a0.view.set = (RA 0 inb_S2x16x16x64_S1x16x16x64_0_0_0_0).set := by
  show (((View.whole cc0_scratch0).slice _).reshape _ _).set = _
  rw [View.set_reshape, View.set_slice_whole]
theorem a1_set : a1.view.set = (RA 1 inb_S2x16x16x64_S1x16x16x64_1_0_0_0).set := by
  show (((View.whole cc0_scratch0).slice _).reshape _ _).set = _
  rw [View.set_reshape, View.set_slice_whole]
theorem t0_set : t0.view.set = (RT 0 inb_S2x2x16x16_S1x2x16x16_0_0_0_0).set := by
  show (((View.whole cc0_scratch1).slice _).reshape _ _).set = _
  rw [View.set_reshape, View.set_slice_whole]
theorem t1_set : t1.view.set = (RT 1 inb_S2x2x16x16_S1x2x16x16_1_0_0_0).set := by
  show (((View.whole cc0_scratch1).slice _).reshape _ _).set = _
  rw [View.set_reshape, View.set_slice_whole]

theorem mem_a0 (i : S2x16x16x64.Idx) : i ∈ a0.view.set ↔ (i 0).val = 0 := by rw [a0_set]; exact mem_RA 0 _ i
theorem mem_a1 (i : S2x16x16x64.Idx) : i ∈ a1.view.set ↔ (i 0).val = 1 := by rw [a1_set]; exact mem_RA 1 _ i
theorem mem_t0 (i : S2x2x16x16.Idx) : i ∈ t0.view.set ↔ (i 0).val = 0 := by rw [t0_set]; exact mem_RT 0 _ i
theorem mem_t1 (i : S2x2x16x16.Idx) : i ∈ t1.view.set ↔ (i 0).val = 1 := by rw [t1_set]; exact mem_RT 1 _ i

theorem disj_a : Disjoint a0.view.set a1.view.set := Finset.disjoint_left.mpr fun i h h' => by
  have e := (mem_a0 i).mp h
  have e' := (mem_a1 i).mp h'
  omega
theorem disj_t : Disjoint t0.view.set t1.view.set := Finset.disjoint_left.mpr fun i h h' => by
  have e := (mem_t0 i).mp h
  have e' := (mem_t1 i).mp h'
  omega
theorem cover_a : a0.view.set ∪ a1.view.set = Finset.univ := Finset.eq_univ_of_forall fun i => by
  have h0 : (i 0).val < 2 := (i 0).isLt
  rcases Nat.lt_or_ge (i 0).val 1 with h | h
  · exact Finset.mem_union_left _ ((mem_a0 i).mpr (by omega))
  · exact Finset.mem_union_right _ ((mem_a1 i).mpr (by omega))
theorem cover_t : t0.view.set ∪ t1.view.set = Finset.univ := Finset.eq_univ_of_forall fun i => by
  have h0 : (i 0).val < 2 := (i 0).isLt
  rcases Nat.lt_or_ge (i 0).val 1 with h | h
  · exact Finset.mem_union_left _ ((mem_t0 i).mpr (by omega))
  · exact Finset.mem_union_right _ ((mem_t1 i).mpr (by omega))

/-! ## The slots held -/

abbrev CA : Type := (cc0_scratch0 : Ref sig .tc).ty.Contents (Elt F)
abbrev CT : Type := (cc0_scratch1 : Ref sig .tc).ty.Contents (Elt F)

abbrev hA0 (c : Dev nD) (f : CA (F := F)) : sProp 𝕄 := a0.view.loc (c : Thread nD τ) ↦[a0.view.set]{fullShare} f
abbrev hA1 (c : Dev nD) (f : CA (F := F)) : sProp 𝕄 := a1.view.loc (c : Thread nD τ) ↦[a1.view.set]{fullShare} f
abbrev hT0 (c : Dev nD) (f : CT (F := F)) : sProp 𝕄 := t0.view.loc (c : Thread nD τ) ↦[t0.view.set]{fullShare} f
abbrev hT1 (c : Dev nD) (f : CT (F := F)) : sProp 𝕄 := t1.view.loc (c : Thread nD τ) ↦[t1.view.set]{fullShare} f

/-- What two slots' contents are together. -/
def bothA (f g : CA (F := F)) : CA (F := F) := fun i => if (i 0).val = 0 then f i else g i
def bothT (f g : CT (F := F)) : CT (F := F) := fun i => if (i 0).val = 0 then f i else g i

theorem splitA (c : Dev nD) (f f' : CA (F := F)) (h : ∀ i : S2x16x16x64.Idx, (i 0).val = 0 → f i = f' i) :
    pt c cc0_scratch0 f ⊢ iprop(hA0 c f' ∗ hA1 c f) := by
  have e : pt c cc0_scratch0 f = (a0.view.loc (c : Thread nD τ) ↦[a0.view.set ∪ a1.view.set]{fullShare} f : sProp 𝕄) := by
    rw [cover_a]
  rw [e, show hA0 c f' = hA0 c f from (pointsTo_congr fun i hi => h i ((mem_a0 i).mp hi)).symm]
  exact (pointsTo_union disj_a).1
theorem splitT (c : Dev nD) (f f' : CT (F := F)) (h : ∀ i : S2x2x16x16.Idx, (i 0).val = 0 → f i = f' i) :
    pt c cc0_scratch1 f ⊢ iprop(hT0 c f' ∗ hT1 c f) := by
  have e : pt c cc0_scratch1 f = (t0.view.loc (c : Thread nD τ) ↦[t0.view.set ∪ t1.view.set]{fullShare} f : sProp 𝕄) := by
    rw [cover_t]
  rw [e, show hT0 c f' = hT0 c f from (pointsTo_congr fun i hi => h i ((mem_t0 i).mp hi)).symm]
  exact (pointsTo_union disj_t).1

theorem joinA (c : Dev nD) (f g : CA (F := F)) : iprop(hA0 c f ∗ hA1 c g) ⊢ pt c cc0_scratch0 (bothA f g) := by
  have e : pt c cc0_scratch0 (bothA f g) = (a0.view.loc (c : Thread nD τ) ↦[a0.view.set ∪ a1.view.set]{fullShare} bothA f g : sProp 𝕄) := by
    rw [cover_a]
  rw [e, show hA0 c f = hA0 c (bothA f g) from pointsTo_congr fun i hi => (if_pos ((mem_a0 i).mp hi)).symm,
    show hA1 c g = hA1 c (bothA f g) from pointsTo_congr fun i hi => (if_neg (by rw [(mem_a1 i).mp hi]; decide)).symm]
  exact (pointsTo_union disj_a).2
theorem joinT (c : Dev nD) (f g : CT (F := F)) : iprop(hT0 c f ∗ hT1 c g) ⊢ pt c cc0_scratch1 (bothT f g) := by
  have e : pt c cc0_scratch1 (bothT f g) = (t0.view.loc (c : Thread nD τ) ↦[t0.view.set ∪ t1.view.set]{fullShare} bothT f g : sProp 𝕄) := by
    rw [cover_t]
  rw [e, show hT0 c f = hT0 c (bothT f g) from pointsTo_congr fun i hi => (if_pos ((mem_t0 i).mp hi)).symm,
    show hT1 c g = hT1 c (bothT f g) from pointsTo_congr fun i hi => (if_neg (by rw [(mem_t1 i).mp hi]; decide)).symm]
  exact (pointsTo_union disj_t).2

/-! ## A copy from slot 0 to slot 1 -/

/-- Contents that do not depend on the slot. -/
def FreeA (f : CA (F := F)) : Prop := ∀ i j : S2x16x16x64.Idx, (∀ a : Fin 4, a ≠ 0 → (i a).val = (j a).val) → f i = f j
def FreeT (f : CT (F := F)) : Prop := ∀ i j : S2x2x16x16.Idx, (∀ a : Fin 4, a ≠ 0 → (i a).val = (j a).val) → f i = f j

theorem accFull_free (w : FVec F S16x2048 .f32) (q : FVec F S16x1024 .bf16) (k v : FVec F S2048x1024 .bf16) : FreeA (accFull w q k v) := by
  intro i j h
  unfold accFull
  have e1 := h 1 (by decide)
  have e2 := h 2 (by decide)
  have e3 := h 3 (by decide)
  rw [show (⟨(i 1).val, (i 1).isLt⟩ : Fin 16) = ⟨(j 1).val, (j 1).isLt⟩ from Fin.ext e1]
  refine congrArg _ (funext fun b => Fin.ext ?_)
  fin_cases b
  · rfl
  · rfl
  · exact e2
  · exact e3
theorem statFull_free (w : FVec F S16x2048 .f32) (q : FVec F S16x1024 .bf16) (k : FVec F S2048x1024 .bf16) : FreeT (statFull w q k) := by
  intro i j h
  unfold statFull
  have e1 := h 1 (by decide)
  have e2 := h 2 (by decide)
  have e3 := h 3 (by decide)
  rw [e1]
  refine congrArg _ (funext fun b => Fin.ext ?_)
  fin_cases b
  · rfl
  · rfl
  · exact e2
  · exact e3

theorem landA (fd fs : CA (F := F)) (hf : FreeA fs) :
    ∀ i ∈ a1.view.set, a1.view.write (Elt F) fd (a0.view.read (Elt F) fs) Finset.univ i = fs i := by
  intro i hi
  obtain ⟨j, -, rfl⟩ := Finset.mem_map.mp hi
  rw [View.write_emb_of_mem _ _ (Finset.mem_univ j)]
  show fs (a0.view.emb j) = fs (a1.view.emb j)
  refine hf _ _ fun a ha => ?_
  fin_cases a
  · exact absurd rfl ha
  all_goals rfl
theorem landT (fd fs : CT (F := F)) (hf : FreeT fs) :
    ∀ i ∈ t1.view.set, t1.view.write (Elt F) fd (t0.view.read (Elt F) fs) Finset.univ i = fs i := by
  intro i hi
  obtain ⟨j, -, rfl⟩ := Finset.mem_map.mp hi
  rw [View.write_emb_of_mem _ _ (Finset.mem_univ j)]
  show fs (t0.view.emb j) = fs (t1.view.emb j)
  refine hf _ _ fun a ha => ?_
  fin_cases a
  · exact absurd rfl ha
  all_goals rfl

end Cert.Proof.KernelIdeal

end
-- ==== Proof.Talk.lean ====
/-
# The exchange with the peer

Every device has one peer, the device of the other half of the first mesh axis at the same place on the other two
axes. It tells its peer that it is ready, waits to be told the same, copies slot 0 of both scratch buffers into slot 1
of its peer's, and waits until its own two copies have left and its peer's two have arrived.

Being told hands over the peer's landing slots. The completion of an own copy gives the own slot back; an arrival
gives the landing slot at the peer's contents. The contents are named throughout: `cA c` and `cT c` are what device
`c` sends.
-/
module

public import proofs.«01_k».proof.Proof.Slots

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer -/

/-- The device a device exchanges with. -/
def peer (c : Dev nD) : Dev nD := ⟨(c.val + 8) % 16, Nat.mod_lt _ (by decide)⟩
theorem peer_peer (c : Dev nD) : peer (peer c) = c := by revert c; decide
def across : Dev nD ≃ Dev nD := ⟨peer, peer, peer_peer, peer_peer⟩

theorem dev_eq (c : Dev nD) (n : ℕ) (h : n < nD) (e : n = (4 * ((c.val / 4) % 2) + c.val % 4 + 8) - 8 * (c.val / 8)) : (⟨n, h⟩ : Dev nD) = peer c := by
  subst e
  refine Fin.ext ?_
  show (4 * ((c.val / 4) % 2) + c.val % 4 + 8) - 8 * (c.val / 8) = (c.val + 8) % 16
  have := c.isLt
  have h16 : c.val < 16 := this
  omega
theorem dev1_eq (c : Dev nD) : (⟨k0_dev1 c, k0_dev1_lt c⟩ : Dev nD) = peer c := dev_eq c _ _ (k0_dev1_eq c)
theorem dev2_eq (c : Dev nD) : (⟨k0_dev2 c, k0_dev2_lt c⟩ : Dev nD) = peer c := dev_eq c _ _ (k0_dev2_eq c)
theorem dev3_eq (c : Dev nD) : (⟨k0_dev3 c, k0_dev3_lt c⟩ : Dev nD) = peer c := dev_eq c _ _ (k0_dev3_eq c)

/-! ## The semaphore cells -/

abbrev barS : Sem sig := (SemArray.scalar (sig.barrier 0 rfl) : Sems sig S_).sem
abbrev snd0 : DmaSem sig := ((cc0_scratch2.slice (Rect.unit (s := S2) ![0] S1.size inb_S2_S1_0)).squeeze S_ squeezes_S1_S_).sem
abbrev snd1 : DmaSem sig := ((cc0_scratch2.slice (Rect.unit (s := S2) ![1] S1.size inb_S2_S1_1)).squeeze S_ squeezes_S1_S_).sem
abbrev rcv0 : DmaSem sig := ((cc0_scratch3.slice (Rect.unit (s := S2) ![0] S1.size inb_S2_S1_0)).squeeze S_ squeezes_S1_S_).sem
abbrev rcv1 : DmaSem sig := ((cc0_scratch3.slice (Rect.unit (s := S2) ![1] S1.size inb_S2_S1_1)).squeeze S_ squeezes_S1_S_).sem

/-- The kernel's own semaphores: its two copies leaving, its peer's two arriving. -/
abbrev osem : Fin 4 → SemLoc sig := fun | 0 => .dma snd0 | 1 => .dma snd1 | 2 => .dma rcv0 | 3 => .dma rcv1
abbrev barC (c : Dev nD) : GSem nD τ sig := ((c : Thread nD τ), .reg barS)
abbrev oC (c : Dev nD) (k : Fin 4) : GSem nD τ sig := ((c : Thread nD τ), osem k)

theorem osem_inj : Function.Injective osem := by decide
theorem osem_ne_bar (k : Fin 4) : osem k ≠ .reg barS := by revert k; decide

abbrev NA : ℕ := a1.view.dmaCredit
abbrev NT : ℕ := t1.view.dmaCredit
/-- What a cell of the kernel's own counts: the credit of the copy it is for. -/
abbrev oN : Fin 4 → ℕ := fun | 0 => NA | 1 => NT | 2 => NA | 3 => NT
theorem oN_pos (k : Fin 4) : 0 < oN k := by
  fin_cases k
  · exact View.dmaCredit_pos _ (by decide)
  · exact View.dmaCredit_pos _ (by decide)
  · exact View.dmaCredit_pos _ (by decide)
  · exact View.dmaCredit_pos _ (by decide)

/-! ## The schedule -/

section
variable (cA : Dev nD → CA (F := F)) (cT : Dev nD → CT (F := F))

/-- What the peer's signal hands device `c`: the peer's landing slots, and that its arrivals can be paid. -/
def barPay (c : Dev nD) : sProp 𝕄 :=
  iprop((∃ f, hA1 (peer c) f) ∗ (∃ f, hT1 (peer c) f) ∗ reached ER (oC (peer c) 2) 0 ∗ reached ER (oC (peer c) 3) 0)
/-- What the four copies' completions hand device `c`. -/
def oPay (c : Dev nD) : Fin 4 → sProp 𝕄 := fun
  | 0 => hA0 c (cA c)
  | 1 => hT0 c (cT c)
  | 2 => hA1 c (cA (peer c))
  | 3 => hT1 c (cT (peer c))

abbrev Mine (g : GSem nD τ sig) : Prop := g.1.2 = .tc ∧ (g.2 = .reg barS ∨ ∃ k, g.2 = osem k)

/-- One duty on every cell, in the one round there is. -/
def talk : Rounds.Schedule (GSem nD τ sig) Unit 𝕄 where
  duties g r := if r = 0 ∧ Mine g then {()} else ∅
  unitless _ := False
  amount g _ _ := if g.2 = osem 0 then oN 0 else if g.2 = osem 1 then oN 1 else if g.2 = osem 2 then oN 2 else if g.2 = osem 3 then oN 3 else 1
  payload g _ _ :=
    if g.2 = osem 0 then oPay cA cT g.1.1 0
    else if g.2 = osem 1 then oPay cA cT g.1.1 1
    else if g.2 = osem 2 then oPay cA cT g.1.1 2
    else if g.2 = osem 3 then oPay cA cT g.1.1 3
    else barPay g.1.1
  amount_pos g _ _ _ := by
    (repeat' split)
    · exact oN_pos 0
    · exact oN_pos 1
    · exact oN_pos 2
    · exact oN_pos 3
    · exact Nat.one_pos

instance oPay_storable (c : Dev nD) (k : Fin 4) : BI.Storable (upEmb : UEmb _ 𝕄) (oPay cA cT c k) := by
  fin_cases k <;> (unfold oPay; dsimp only; infer_instance)
instance barPay_storable (c : Dev nD) : BI.Storable (upEmb : UEmb _ 𝕄) (barPay (F := F) c) := by
  unfold barPay; infer_instance
instance talk_storable (g : GSem nD τ sig) (r : ℕ) (d : Unit) : BI.Storable (upEmb : UEmb _ 𝕄) ((talk cA cT).payload g r d) := by
  show BI.Storable upEmb (if g.2 = osem 0 then oPay cA cT g.1.1 0 else if g.2 = osem 1 then oPay cA cT g.1.1 1
    else if g.2 = osem 2 then oPay cA cT g.1.1 2 else if g.2 = osem 3 then oPay cA cT g.1.1 3 else barPay g.1.1)
  (repeat' split) <;> infer_instance

variable (c : Dev nD)

theorem duties_bar : (talk cA cT).duties (barC c) 0 = {()} := by dsimp only [talk]; exact if_pos ⟨rfl, rfl, .inl rfl⟩
theorem duties_own (k : Fin 4) : (talk cA cT).duties (oC c k) 0 = {()} := by dsimp only [talk]; exact if_pos ⟨rfl, rfl, .inr ⟨k, rfl⟩⟩
theorem duties_after (g : GSem nD τ sig) : ∀ r, 1 ≤ r → (talk cA cT).duties g r = ∅ :=
  fun r hr => by dsimp only [talk]; exact if_neg fun h => by omega

theorem amount_bar (u : Unit) : (talk cA cT).amount (barC c) 0 u = 1 := by
  dsimp only [talk]
  rw [if_neg (osem_ne_bar 0).symm, if_neg (osem_ne_bar 1).symm, if_neg (osem_ne_bar 2).symm, if_neg (osem_ne_bar 3).symm]
theorem payload_bar (u : Unit) : (talk cA cT).payload (barC c) 0 u = barPay c := by
  dsimp only [talk]
  rw [if_neg (osem_ne_bar 0).symm, if_neg (osem_ne_bar 1).symm, if_neg (osem_ne_bar 2).symm, if_neg (osem_ne_bar 3).symm]
theorem amount_own (k : Fin 4) (u : Unit) : (talk cA cT).amount (oC c k) 0 u = oN k := by
  have ne : ∀ j j' : Fin 4, j ≠ j' → osem j ≠ osem j' := fun j j' h e => h (osem_inj e)
  fin_cases k
  · dsimp only [talk]; exact if_pos rfl
  · dsimp only [talk]; exact (if_neg (ne 1 0 (by decide))).trans (if_pos rfl)
  · dsimp only [talk]; exact (if_neg (ne 2 0 (by decide))).trans ((if_neg (ne 2 1 (by decide))).trans (if_pos rfl))
  · dsimp only [talk]; exact (if_neg (ne 3 0 (by decide))).trans ((if_neg (ne 3 1 (by decide))).trans ((if_neg (ne 3 2 (by decide))).trans (if_pos rfl)))
theorem payload_own (k : Fin 4) (u : Unit) : (talk cA cT).payload (oC c k) 0 u = oPay cA cT c k := by
  have ne : ∀ j j' : Fin 4, j ≠ j' → osem j ≠ osem j' := fun j j' h e => h (osem_inj e)
  fin_cases k
  · dsimp only [talk]; exact if_pos rfl
  · dsimp only [talk]; exact (if_neg (ne 1 0 (by decide))).trans (if_pos rfl)
  · dsimp only [talk]; exact (if_neg (ne 2 0 (by decide))).trans ((if_neg (ne 2 1 (by decide))).trans (if_pos rfl))
  · dsimp only [talk]; exact (if_neg (ne 3 0 (by decide))).trans ((if_neg (ne 3 1 (by decide))).trans ((if_neg (ne 3 2 (by decide))).trans (if_pos rfl)))

theorem expect_bar : (talk cA cT).expect (barC c) 0 = 1 := by
  unfold Schedule.expect Schedule.amountOf; rw [duties_bar, Finset.sum_singleton, amount_bar]
theorem expect_own (k : Fin 4) : (talk cA cT).expect (oC c k) 0 = oN k := by
  unfold Schedule.expect Schedule.amountOf; rw [duties_own, Finset.sum_singleton, amount_own]
theorem rest_bar : bigSep ((talk cA cT).duties (barC c) 0 \ ∅) (fun u => (talk cA cT).payload (barC c) 0 u) = barPay c := by
  rw [Finset.sdiff_empty, duties_bar, bigSep_singleton, payload_bar]
theorem rest_own (k : Fin 4) : bigSep ((talk cA cT).duties (oC c k) 0 \ ∅) (fun u => (talk cA cT).payload (oC c k) 0 u) = oPay cA cT c k := by
  rw [Finset.sdiff_empty, duties_own, bigSep_singleton, payload_own]

end

/-! ## What a device owes, and the levels -/

/-- What device `c` owes once it has signalled: its peer's two arrivals. -/
def O₁ (c : Dev nD) : CellTallies nD τ sig Unit := tallyAt (oC (peer c) 3) () NT + tallyAt (oC (peer c) 2) () NA
/-- What it owes at first: those, and its peer's barrier unit. -/
def O₀ (c : Dev nD) : CellTallies nD τ sig Unit := O₁ c + tallyAt (barC (peer c)) () 1

def L (g : GSem nD τ sig) : Finset Unit := if g.1.2 = .tc then {()} else ∅
/-- The barrier before the arrivals, everything else before both. -/
def lv (g : GSem nD τ sig) (_ : Unit) : ℕ := if g.2 = .reg barS then 1 else if g.2 = osem 2 ∨ g.2 = osem 3 then 2 else 0
theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

theorem lv_bar (c : Dev nD) (u : Unit) : lv (barC c) u = 1 := by dsimp only [lv]; exact if_pos rfl
theorem lv_two (c : Dev nD) (u : Unit) : lv (oC c 2) u = 2 := by dsimp only [lv]; rw [if_neg (osem_ne_bar 2), if_pos (.inl rfl)]
theorem lv_three (c : Dev nD) (u : Unit) : lv (oC c 3) u = 2 := by dsimp only [lv]; rw [if_neg (osem_ne_bar 3), if_pos (.inr rfl)]

theorem O₁_pos {c : Dev nD} {g : GSem nD τ sig} {u : Unit} (h : 0 < O₁ c g u) : g = oC (peer c) 3 ∨ g = oC (peer c) 2 := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h
theorem O₀_pos {c : Dev nD} {g : GSem nD τ sig} {u : Unit} (h : 0 < O₀ c g u) : g = oC (peer c) 3 ∨ g = oC (peer c) 2 ∨ g = barC (peer c) := by
  unfold O₀ at h
  rw [Pi.add_apply, Finsupp.add_apply] at h
  rcases Nat.add_pos_iff_pos_or_pos.mp h with h | h
  · exact (O₁_pos h).imp id Or.inl
  · rw [tallyAt_apply] at h
    split at h
    · next e => exact .inr (.inr e.1)
    · exact absurd h (Nat.lt_irrefl 0)

theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp]; exact mem_L c _ _)
    (fun g u hg => by rcases O₁_pos hg with rfl | rfl <;> exact mem_L _ _ _)
    (fun p hp => by rw [Finset.mem_singleton.mp hp]; exact le_of_eq (lv_bar c _))
    (fun g u hg => by
      rcases O₁_pos hg with rfl | rfl
      · rw [lv_three]; decide
      · rw [lv_two]; decide)

/-! ## The ghost state -/

section
variable (cA : Dev nD → CA (F := F)) (cT : Dev nD → CT (F := F))

/-- The invariants a device uses: its five cells', and those of its peer's cells that it pays. -/
def invs (K : GSem nD τ sig → ℕ) (c : Dev nD) : sProp 𝕄 :=
  iprop(cellInv ER (talk cA cT) (K (barC c)) (barC c)
    ∗ cellInv ER (talk cA cT) (K (oC c 0)) (oC c 0) ∗ cellInv ER (talk cA cT) (K (oC c 1)) (oC c 1)
    ∗ cellInv ER (talk cA cT) (K (oC c 2)) (oC c 2) ∗ cellInv ER (talk cA cT) (K (oC c 3)) (oC c 3)
    ∗ cellInv ER (talk cA cT) (K (barC (peer c))) (barC (peer c))
    ∗ cellInv ER (talk cA cT) (K (oC (peer c) 2)) (oC (peer c) 2) ∗ cellInv ER (talk cA cT) (K (oC (peer c) 3)) (oC (peer c) 3))

instance invs_persistent (K : GSem nD τ sig → ℕ) (c : Dev nD) : BI.Persistent (invs cA cT K c) := by unfold invs; infer_instance

/-- The tokens of the duties device `c` pays. -/
def pays (c : Dev nD) : sProp 𝕄 :=
  iprop(dutyTok ER (barC (peer c)) 0 () ∗ dutyTok ER (oC c 0) 0 () ∗ dutyTok ER (oC c 1) 0 ()
    ∗ dutyTok ER (oC (peer c) 2) 0 () ∗ dutyTok ER (oC (peer c) 3) 0 ())
/-- The credit it waits with and is given at launch. -/
def creds (c : Dev nD) : sProp 𝕄 :=
  iprop(cred (tallyAt (barC c) () 1) ∗ cred (tallyAt (oC c 2) () NA) ∗ cred (tallyAt (oC c 3) () NT))

/-- The ghost state a device brings from launch; its own four cells are not open yet. -/
def ghost (K : GSem nD τ sig → ℕ) (c : Dev nD) : sProp 𝕄 :=
  iprop(invs cA cT K c ∗ atPos ER (barC c) 0 ∅ 0
    ∗ (openTok ER (oC c 0) ∗ openTok ER (oC c 1) ∗ openTok ER (oC c 2) ∗ openTok ER (oC c 3))
    ∗ reached ER (barC (peer c)) 0 ∗ pays c)
/-- The same with the four cells open. -/
def opened (K : GSem nD τ sig → ℕ) (c : Dev nD) : sProp 𝕄 :=
  iprop(invs cA cT K c ∗ atPos ER (barC c) 0 ∅ 0
    ∗ (atPos ER (oC c 0) 0 ∅ 0 ∗ atPos ER (oC c 1) 0 ∅ 0 ∗ atPos ER (oC c 2) 0 ∅ 0 ∗ atPos ER (oC c 3) 0 ∅ 0)
    ∗ (reached ER (oC c 0) 0 ∗ reached ER (oC c 1) 0 ∗ reached ER (oC c 2) 0 ∗ reached ER (oC c 3) 0)
    ∗ reached ER (barC (peer c)) 0 ∗ pays c)

theorem close_cell (κ : ℕ) (g : GSem nD τ sig) :
    iprop(cellInv ER (talk cA cT) κ g ∗ atPos ER g (0 + 1) ∅ 0) ⊢ (|={Set.univ}=> semVal g 0 : sProp 𝕄) :=
  Rounds.cell_close ER (talk cA cT) (Set.mem_univ κ) id (duties_after cA cT g)

end

end Cert.Proof.KernelIdeal

end
-- ==== Proof.Exchange.lean ====
/-
# The exchange's run

The three parts of the body that exchange, run from one device. Before them the device holds both scratch buffers
whole, slot 0 at what it sends; after them it holds both whole, slot 0 as it was and slot 1 at what its peer sent,
and its five counters are back at zero.
-/
module

public import proofs.«01_k».proof.Proof.Talk

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (cA : Dev nD → CA (F := F)) (cT : Dev nD → CT (F := F)) (hfA : ∀ c, FreeA (cA c)) (hfT : ∀ c, FreeT (cT c))
variable (K : GSem nD τ sig → ℕ) (c : Dev nD)

/-! ## The two copies -/

include hfA in
theorem sendA (n : Dev nD) (hn : n = peer c) {hsc : (a1 : Memref sig (Dev.tc n : Thread nD τ).2.kind .vmem S16x16x64 .f32).view.ref.isScScratch = false}
    {hsrc : a0.view.WordExact} {hdst : (a1 : Memref sig (Dev.tc n : Thread nD τ).2.kind .vmem S16x16x64 .f32).view.WordExact}
    {hsem : DmaTarget.Typed .vmem (.dma rcv0) (.remote (Dev.tc n : Thread nD τ) (a1 : Memref sig (Dev.tc n : Thread nD τ).2.kind .vmem S16x16x64 .f32) (.dma snd0) hsc)}
    {α : Type} {Q : α → sProp 𝕄} {k : PUnit → Prog (TpuEff nD τ sig (Elt F) Λ₀ .tc) α} (fn : CA (F := F)) (W : Waits sig Unit) :
    iprop(cellInv ER (talk cA cT) (K (oC c 0)) (oC c 0) ∗ cellInv ER (talk cA cT) (K (oC (peer c) 2)) (oC (peer c) 2)
        ∗ hA0 c (cA c) ∗ hA1 (peer c) fn ∗ owes (c : Thread nD τ) (O₁ c) W
        ∗ dutyTok ER (oC c 0) 0 () ∗ reached ER (oC c 0) 0 ∗ dutyTok ER (oC (peer c) 2) 0 () ∗ reached ER (oC (peer c) 2) 0)
      ⊢ iprop(((cred (tallyAt (oC c 0) () NA) ∗ owes (c : Thread nD τ) (tallyAt (oC (peer c) 3) () NT) W) -∗ runs c (k ⟨⟩) Q)
          -∗ runs c (.op (.enqueueDma a0 (.remote (Dev.tc n) a1 (.dma snd0) hsc) (.dma rcv0) hsrc hdst hsem) k) Q) := by
  subst hn
  exact Rounds.wp_send_pointsTo 𝒱₀ ER (talk cA cT) (c : Thread nD τ) none (c' := (peer c : Thread nD τ)) (src := a0) (dst := a1)
    (sS := .dma snd0) (sem := .dma rcv0) (q := fullShare) (fs := cA c) (κ₁ := K (oC c 0)) (κ₂ := K (oC (peer c) 2))
    (r₁ := 0) (r₂ := 0) (d₁ := ()) (d₂ := ()) (fd := fn)
    (by rw [duties_own cA cT c 0]; exact Finset.mem_singleton_self _) (by rw [duties_own cA cT (peer c) 2]; exact Finset.mem_singleton_self _)
    () () NA rfl (amount_own cA cT c 0 ()) (amount_own cA cT (peer c) 2 ()) (tallyAt (oC (peer c) 3) () NT) rfl (W := W)
    (by rw [payload_own cA cT c 0]; exact BI.Entails.refl _)
    (by
      rw [payload_own cA cT (peer c) 2]
      show _ ⊢ hA1 (peer c) (cA (peer (peer c)))
      rw [peer_peer]
      exact Entails.of_eq (pointsTo_congr (landA fn (cA c) (hfA c))))

include hfT in
theorem sendT (n : Dev nD) (hn : n = peer c) {hsc : (t1 : Memref sig (Dev.tc n : Thread nD τ).2.kind .vmem S2x16x16 .f32).view.ref.isScScratch = false}
    {hsrc : t0.view.WordExact} {hdst : (t1 : Memref sig (Dev.tc n : Thread nD τ).2.kind .vmem S2x16x16 .f32).view.WordExact}
    {hsem : DmaTarget.Typed .vmem (.dma rcv1) (.remote (Dev.tc n : Thread nD τ) (t1 : Memref sig (Dev.tc n : Thread nD τ).2.kind .vmem S2x16x16 .f32) (.dma snd1) hsc)}
    {α : Type} {Q : α → sProp 𝕄} {k : PUnit → Prog (TpuEff nD τ sig (Elt F) Λ₀ .tc) α} (fn : CT (F := F)) (W : Waits sig Unit) :
    iprop(cellInv ER (talk cA cT) (K (oC c 1)) (oC c 1) ∗ cellInv ER (talk cA cT) (K (oC (peer c) 3)) (oC (peer c) 3)
        ∗ hT0 c (cT c) ∗ hT1 (peer c) fn ∗ owes (c : Thread nD τ) (tallyAt (oC (peer c) 3) () NT) W
        ∗ dutyTok ER (oC c 1) 0 () ∗ reached ER (oC c 1) 0 ∗ dutyTok ER (oC (peer c) 3) 0 () ∗ reached ER (oC (peer c) 3) 0)
      ⊢ iprop(((cred (tallyAt (oC c 1) () NT) ∗ owes (c : Thread nD τ) (0 : CellTallies nD τ sig Unit) W) -∗ runs c (k ⟨⟩) Q)
          -∗ runs c (.op (.enqueueDma t0 (.remote (Dev.tc n) t1 (.dma snd1) hsc) (.dma rcv1) hsrc hdst hsem) k) Q) := by
  subst hn
  exact Rounds.wp_send_pointsTo 𝒱₀ ER (talk cA cT) (c : Thread nD τ) none (c' := (peer c : Thread nD τ)) (src := t0) (dst := t1)
    (sS := .dma snd1) (sem := .dma rcv1) (q := fullShare) (fs := cT c) (κ₁ := K (oC c 1)) (κ₂ := K (oC (peer c) 3))
    (r₁ := 0) (r₂ := 0) (d₁ := ()) (d₂ := ()) (fd := fn)
    (by rw [duties_own cA cT c 1]; exact Finset.mem_singleton_self _) (by rw [duties_own cA cT (peer c) 3]; exact Finset.mem_singleton_self _)
    () () NT rfl (amount_own cA cT c 1 ()) (amount_own cA cT (peer c) 3 ()) 0 (by rw [zero_add]) (W := W)
    (by rw [payload_own cA cT c 1]; exact BI.Entails.refl _)
    (by
      rw [payload_own cA cT (peer c) 3]
      show _ ⊢ hT1 (peer c) (cT (peer (peer c)))
      rw [peer_peer]
      exact Entails.of_eq (pointsTo_congr (landT fn (cT c) (hfT c))))

/-! ## A wait for one of the four completions, nothing owed -/

theorem wait_own (k : Fin 4) (sem : DmaSem sig) (hsem : SemLoc.dma sem = osem k) {s : Shape} (src dst : Memref sig .tc .vmem s .f32)
    (hN : dst.view.dmaCredit = oN k) {h₁ : src.view.WordExact} {h₂ : dst.view.WordExact}
    {α : Type} {Q : α → sProp 𝕄} {P : PUnit → Prog (TpuEff nD τ sig (Elt F) Λ₀ .tc) α} (W : Waits sig Unit) :
    iprop(cellInv ER (talk cA cT) (K (oC c k)) (oC c k) ∗ cred (tallyAt (oC c k) () (oN k)) ∗ owes (c : Thread nD τ) (0 : CellTallies nD τ sig Unit) W
        ∗ atPos ER (oC c k) 0 ∅ 0)
      ⊢ iprop(((∃ W', owes (c : Thread nD τ) (0 : CellTallies nD τ sig Unit) W') ∗ atPos ER (oC c k) (0 + 1) ∅ 0 ∗ oPay cA cT c k -∗ runs c (P ⟨⟩) Q)
          -∗ runs c (.op (.waitDma2 sem src dst h₁ h₂) P) Q) := by
  have hw : ∀ Kt : PUnit → sProp 𝕄, wpE (defs₀ (F := F)) 𝒱₀ (c : Thread nD τ) none Set.univ (.waitDma2 sem src dst h₁ h₂) Kt
      = waitSpec (c : Thread nD τ) Set.univ (osem k) (oN k) Kt := fun Kt => by rw [wpE_waitDma2_eq, hsem, hN]
  iintro ⟨#HI, Hc, HO, Hat⟩ Hk
  iapply (Rounds.wp_wait_rest_token 𝒱₀ ER (talk cA cT) (c : Thread nD τ) none (κ := K (oC c k)) (sm := osem k) (k' := oN k)
    hw (Set.mem_univ _) () (O := 0) (W := W) (R := 0) (m := 0) (T := ∅) ((Nat.zero_add _).trans (expect_own cA cT c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_own cA cT c k)) $$ Hpay
  iapply Hk
  isplitl [HO]; · iexists _; iexact HO
  isplitl [Hat] <;> iassumption

/-! ## The whole exchange -/

theorem runs_ret_upd {α : Type} {a b : α} (hab : a = b) {Q : α → sProp 𝕄} : (|={Set.univ}=> Q b : sProp 𝕄) ⊢ runs c (.ret a) Q := by
  unfold runs
  rw [hab, wp_ret]

/-- What the exchange needs besides the scratch buffers. -/
def talkPre (W : Waits sig Unit) : sProp 𝕄 := iprop(opened cA cT K c ∗ creds c ∗ levAts L lv ∗ owes (c : Thread nD τ) (O₀ c) W)
/-- What it leaves besides them: the five counters at zero, nothing owed. -/
def talkPost : sProp 𝕄 :=
  iprop(semVal (barC c) 0 ∗ (semVal (oC c 0) 0 ∗ semVal (oC c 1) 0 ∗ semVal (oC c 2) 0 ∗ semVal (oC c 3) 0)
    ∗ ∃ W, owes (c : Thread nD τ) (0 : CellTallies nD τ sig Unit) W)

/-- What the four loads of the row maxima and sums read. -/
def ldT (g : CT (F := F)) (s j : ℕ) (h : ∀ a, (![s, j, 0, 0] : Fin 4 → ℕ) a + S1x1x16x16.size a ≤ S2x2x16x16.size a) : FVec F S1x1x16x16 .f32 :=
  mT.view.readAt (Elt F) (Rect.unit (s := S2x2x16x16) ![s, j, 0, 0] S1x1x16x16.size h).toLoadRect g

include hfA hfT in
theorem exchange (v5 v8 v9 v351 v352 : BitVec 32) (fA : CA (F := F)) (fT : CT (F := F))
    (hA : ∀ i : S2x16x16x64.Idx, (i 0).val = 0 → fA i = cA c i) (hT : ∀ i : S2x2x16x16.Idx, (i 0).val = 0 → fT i = cT c i)
    (W : Waits sig Unit) (Q : _ → sProp 𝕄) :
    iprop(talkPre cA cT K c W ∗ pt c cc0_scratch0 fA ∗ pt c cc0_scratch1 fT) ⊢
      iprop((talkPost c ∗ pt c cc0_scratch0 (bothA (cA c) (cA (peer c))) ∗ pt c cc0_scratch1 (bothT (cT c) (cT (peer c)))
          -∗ Q ⟨k0_pay96 (ldT (bothT (cT c) (cT (peer c))) 0 0 inb_S2x2x16x16_S1x1x16x16_0_0_0_0),
              k0_pay97 (ldT (bothT (cT c) (cT (peer c))) 0 1 inb_S2x2x16x16_S1x1x16x16_0_1_0_0),
              k0_pay98 (ldT (bothT (cT c) (cT (peer c))) 1 0 inb_S2x2x16x16_S1x1x16x16_1_0_0_0),
              k0_pay99 (ldT (bothT (cT c) (cT (peer c))) 1 1 inb_S2x2x16x16_S1x1x16x16_1_1_0_0)⟩) -∗
        runs c (k0_part10 (F := F) mQ wQ mK wK mV wV mB wB mL wL mO wO mA wA mT wT cc0_scratch2 cc0_scratch3 c v5 v8 v9 (SemArray.scalar (sig.barrier 0 rfl)) v351 v352) fun _ =>
          runs c (k0_part11 (F := F) mQ wQ mK wK mV wV mB wB mL wL mO wO mA wA mT wT cc0_scratch2 cc0_scratch3 c v5 v8 v9) fun _ =>
            runs c (k0_part12 (F := F) mQ wQ mK wK mV wV mB wB mL wL mO wO mA wA mT wT cc0_scratch2 cc0_scratch3 v5 v8 v9) Q) := by
  rw [k0_part10_eq_skeleton]
  unfold k0_part10_skel talkPre opened invs creds pays
  simp only [semSignalWord, semWaitWord, Prog.lift, Prog.bind_op, Prog.bind_ret, Prog.pure_eq_ret, Prog.bind_assoc]
  iintro ⟨⟨⟨⟨#IB, #I0, #I1, #I2, #I3, #IBp, #I2p, #I3p⟩, HaB, ⟨Ha0, Ha1, Ha2, Ha3⟩, ⟨#R0, #R1, #R2, #R3⟩, #RBp, TB, T0, T1, T2, T3⟩, ⟨HcB, Hc2, Hc3⟩, #Hlev, HO⟩, HA, HT⟩ Hk
  ihave HA := (splitA c fA (cA c) hA) $$ HA
  icases HA with ⟨HA0, HA1⟩
  ihave HT := (splitT c fT (cT c) hT) $$ HT
  icases HT with ⟨HT0, HT1⟩
  rw [dev1_eq c]
  -- the signal to the peer: it hands over the own landing slots
  iapply (Rounds.wp_signal 𝒱₀ ER (talk cA cT) (c : Thread nD τ) none (dst := (peer c : Thread nD τ)) (sem := barS) (r := 0) (d := ()) (κ := K (barC (peer c)))
      (by rw [duties_bar]; exact Finset.mem_singleton_self _) (amount_bar cA cT (peer c) ()) () (O₁ c) rfl) $$ [HO TB HA1 HT1]
  · isplitr; · iexact IBp
    isplitl [HO]; · iexact HO
    isplitl [TB]; · iexact TB
    isplitl [HA1 HT1]
    · rw [payload_bar]; unfold barPay; rw [peer_peer]
      isplitl [HA1]; · iexists fA; iexact HA1
      isplitl [HT1]; · iexists fT; iexact HT1
      isplitr; · iexact R2
      iexact R3
    · iexact RBp
  iintro HO
  -- the wait for the peer's signal: its landing slots come
  iapply (Rounds.wp_wait_rest_token 𝒱₀ ER (talk cA cT) (c : Thread nD τ) none (κ := K (barC c))
      (wpE_semWait_eq 𝒱₀ (c : Thread nD τ) none Set.univ) (Set.mem_univ _) () (O := O₁ c) (W := W) (R := 0) (m := 0) (T := ∅)
      ((Nat.zero_add 1).trans (expect_bar cA cT c).symm)) $$ [HcB HO HaB]
  · isplitr; · iexact IB
    isplitl [HcB]; · iexact HcB
    isplitl [HO]; · iexact HO
    isplitr; · iapply (mayWait_bar c); iexact Hlev
    iexact HaB
  iintro ⟨HO, HaB, -, Hpay⟩
  ihave Hp := (Entails.of_eq (rest_bar cA cT c)) $$ Hpay
  unfold barPay
  icases Hp with ⟨⟨%fn, HnA⟩, ⟨%gn, HnT⟩, #R2p, #R3p⟩
  -- the first copy
  iapply (sendA cA cT hfA K c _ (dev2_eq c) fn _) $$ [HA0 HnA HO T0 T2]
  · isplitr; · iexact I0
    isplitr; · iexact I2p
    isplitl [HA0]; · iexact HA0
    isplitl [HnA]; · iexact HnA
    isplitl [HO]; · iexact HO
    isplitl [T0]; · iexact T0
    isplitr; · iexact R0
    isplitl [T2]; · iexact T2
    iexact R2p
  iintro ⟨Hc0, HO⟩
  iapply (runs_ret c)
  -- the second copy, then the first one's two completions
  rw [k0_part11_eq_skeleton]
  unfold k0_part11_skel
  simp only [Prog.lift, Prog.bind_op, Prog.bind_ret, Prog.pure_eq_ret, Prog.bind_assoc]
  iapply (sendT cA cT hfT K c _ (dev3_eq c) gn _) $$ [HT0 HnT HO T1 T3]
  · isplitr; · iexact I1
    isplitr; · iexact I3p
    isplitl [HT0]; · iexact HT0
    isplitl [HnT]; · iexact HnT
    isplitl [HO]; · iexact HO
    isplitl [T1]; · iexact T1
    isplitr; · iexact R1
    isplitl [T3]; · iexact T3
    iexact R3p
  iintro ⟨Hc1, HO⟩
  iapply (wait_own cA cT K c 0 snd0 rfl a1 a0 rfl _) $$ [Hc0 HO Ha0]
  · isplitr; · iexact I0
    isplitl [Hc0]; · iexact Hc0
    isplitl [HO] <;> iassumption
  iintro ⟨⟨%W1, HO⟩, Ha0, HA0⟩
  ihave HA0 := (Entails.of_eq (show oPay cA cT c 0 = hA0 c (cA c) from rfl)) $$ HA0
  iapply (wait_own cA cT K c 2 rcv0 rfl a0 a1 rfl _) $$ [Hc2 HO Ha2]
  · isplitr; · iexact I2
    isplitl [Hc2]; · iexact Hc2
    isplitl [HO] <;> iassumption
  iintro ⟨⟨%W2, HO⟩, Ha2, HA1⟩
  ihave HA1 := (Entails.of_eq (show oPay cA cT c 2 = hA1 c (cA (peer c)) from rfl)) $$ HA1
  iapply (runs_ret c)
  rw [k0_part12_eq_skeleton]
  unfold k0_part12_skel
  simp only [Prog.lift, Prog.bind_op, Prog.bind_ret, Prog.pure_eq_ret, Prog.bind_assoc]
  iapply (wait_own cA cT K c 1 snd1 rfl t1 t0 rfl _) $$ [Hc1 HO Ha1]
  · isplitr; · iexact I1
    isplitl [Hc1]; · iexact Hc1
    isplitl [HO] <;> iassumption
  iintro ⟨⟨%W3, HO⟩, Ha1, HT0⟩
  ihave HT0 := (Entails.of_eq (show oPay cA cT c 1 = hT0 c (cT c) from rfl)) $$ HT0
  iapply (wait_own cA cT K c 3 rcv1 rfl t0 t1 rfl _) $$ [Hc3 HO Ha3]
  · isplitr; · iexact I3
    isplitl [Hc3]; · iexact Hc3
    isplitl [HO] <;> iassumption
  iintro ⟨⟨%W4, HO⟩, Ha3, HT1⟩
  ihave HT1 := (Entails.of_eq (show oPay cA cT c 3 = hT1 c (cT (peer c)) from rfl)) $$ HT1
  ihave HA := (joinA c (cA c) (cA (peer c))) $$ [HA0 HA1]
  · isplitl [HA0]; · iexact HA0
    iexact HA1
  ihave HT := (joinT c (cT c) (cT (peer c))) $$ [HT0 HT1]
  · isplitl [HT0]; · iexact HT0
    iexact HT1
  iapply (wp_load 𝒱₀ (c : Thread nD τ) none Set.univ (m := mT) (Finset.subset_univ _)) $$ HT
  iintro HT
  iapply (wp_load 𝒱₀ (c : Thread nD τ) none Set.univ (m := mT) (Finset.subset_univ _)) $$ HT
  iintro HT
  iapply (wp_load 𝒱₀ (c : Thread nD τ) none Set.univ (m := mT) (Finset.subset_univ _)) $$ HT
  iintro HT
  iapply (wp_load 𝒱₀ (c : Thread nD τ) none Set.univ (m := mT) (Finset.subset_univ _)) $$ HT
  iintro HT
  iapply (runs_ret_upd c (b := ⟨k0_pay96 (ldT (bothT (cT c) (cT (peer c))) 0 0 inb_S2x2x16x16_S1x1x16x16_0_0_0_0),
      k0_pay97 (ldT (bothT (cT c) (cT (peer c))) 0 1 inb_S2x2x16x16_S1x1x16x16_0_1_0_0),
      k0_pay98 (ldT (bothT (cT c) (cT (peer c))) 1 0 inb_S2x2x16x16_S1x1x16x16_1_0_0_0),
      k0_pay99 (ldT (bothT (cT c) (cT (peer c))) 1 1 inb_S2x2x16x16_S1x1x16x16_1_1_0_0)⟩) (by rfl))
  imod (close_cell cA cT (K (barC c)) (barC c)) $$ [HaB] with HvB
  · isplitr; · iexact IB
    iexact HaB
  imod (close_cell cA cT (K (oC c 0)) (oC c 0)) $$ [Ha0] with Hv0
  · isplitr; · iexact I0
    iexact Ha0
  imod (close_cell cA cT (K (oC c 1)) (oC c 1)) $$ [Ha1] with Hv1
  · isplitr; · iexact I1
    iexact Ha1
  imod (close_cell cA cT (K (oC c 2)) (oC c 2)) $$ [Ha2] with Hv2
  · isplitr; · iexact I2
    iexact Ha2
  imod (close_cell cA cT (K (oC c 3)) (oC c 3)) $$ [Ha3] with Hv3
  · isplitr; · iexact I3
    iexact Ha3
  imodintro
  iapply Hk
  unfold talkPost
  isplitl [HvB Hv0 Hv1 Hv2 Hv3 HO]
  · isplitl [HvB]; · iexact HvB
    isplitl [Hv0 Hv1 Hv2 Hv3]
    · isplitl [Hv0]; · iexact Hv0
      isplitl [Hv1]; · iexact Hv1
      isplitl [Hv2] <;> iassumption
    iexists W4; iexact HO
  isplitl [HA] <;> iassumption

end

end Cert.Proof.KernelIdeal

end
-- ==== Proof.Body.lean ====
/-
# The whole body's run

The body reads its five inputs, computes the heads' partial sums over the keys this device holds, exchanges them with
its peer's, and combines the two. Its parts are put together here; what it leaves in the output block is `outAt`, a
function of what this device and its peer send.
-/
module

public import proofs.«01_k».proof.Proof.Exchange

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device computes from its inputs -/

/-- How often each of the device's keys is selected for each query: the page counts spread over the pages' keys. -/
def wAt (c : Dev nD) (bt : Vec F S16x128 .i32) (ln : Vec F S16x1 .i32) : FVec F S16x2048 .f32 :=
  k0_pay5 (k0_pay2 c bt ln) (iota .tc S128x2048 32 [1] iota_S128x2048_d1_w32) 16#32 k0_pay3 k0_pay4 (Scalar.extui (Scalar.cmpi .sgt 16#32 0#32)) 0#32

/-- The heads' partial sums, and the row maxima and sums: what the device sends. -/
def accAt (c : Dev nD) (q : Vec F S16x1024 .bf16) (k v : Vec F S2048x1024 .bf16) (bt : Vec F S16x128 .i32) (ln : Vec F S16x1 .i32) : CA (F := F) :=
  accFull (wAt c bt ln) (k0_pay6 q) (k0_pay7 k) (k0_pay8 v)
def statAt (c : Dev nD) (q : Vec F S16x1024 .bf16) (k : Vec F S2048x1024 .bf16) (bt : Vec F S16x128 .i32) (ln : Vec F S16x1 .i32) : CT (F := F) :=
  statFull (wAt c bt ln) (k0_pay6 q) (k0_pay7 k)

/-- The combination's inputs read back: the own and the peer's row maxima and sums. -/
def mOwn (g : CT (F := F)) : FVec F S16x16 .f32 := k0_pay96 (ldT g 0 0 inb_S2x2x16x16_S1x1x16x16_0_0_0_0)
def lOwn (g : CT (F := F)) : FVec F S16x16 .f32 := k0_pay97 (ldT g 0 1 inb_S2x2x16x16_S1x1x16x16_0_1_0_0)
def mFar (g : CT (F := F)) : FVec F S16x16 .f32 := k0_pay98 (ldT g 1 0 inb_S2x2x16x16_S1x1x16x16_1_0_0_0)
def lFar (g : CT (F := F)) : FVec F S16x16 .f32 := k0_pay99 (ldT g 1 1 inb_S2x2x16x16_S1x1x16x16_1_1_0_0)

/-- The combined result, from both slots of both scratch buffers. -/
def combined (g : CA (F := F)) (h : CT (F := F)) : (cc0_stg5_0 : Ref sig .tc).ty.Contents (Elt F) :=
  outFull (k0_pay101 (mOwn h) (mFar h)) (k0_pay102 (mOwn h) (mFar h)) (k0_pay103 (mOwn h) (lOwn h) (mFar h) (lFar h)) g

/-- What device `c` leaves in its output block when every device `d` sends `cA d` and `cT d`. -/
def outAt (cA : Dev nD → CA (F := F)) (cT : Dev nD → CT (F := F)) (c : Dev nD) : (cc0_stg5_0 : Ref sig .tc).ty.Contents (Elt F) :=
  combined (bothA (cA c) (cA (peer c))) (bothT (cT c) (cT (peer c)))

theorem off_zero : (![0, 0] : Fin 2 → ℕ) = fun _ => 0 := funext fun a => by fin_cases a <;> rfl

/-! ## The inputs' loads -/

section
variable (c : Dev nD) (q : Vec F S16x1024 .bf16) (k v : Vec F S2048x1024 .bf16) (bt : Vec F S16x128 .i32) (ln : Vec F S16x1 .i32)

/-- A load through a memref whose reading is known. -/
theorem load_at {α : Type} {cs : CoreSpace} {s : Shape} {e : EltTy} (m : Memref sig .tc (.core cs) s e) (r : LoadRect s) (hl : m.view.LoadsAt r)
    (f : Buf (Elt F) (m.view.loc (c : Thread nD τ))) (x : r.shape.Idx → Elt F e) (hx : m.view.readAt (Elt F) r f = x)
    (P : (r.shape.Idx → Elt F e) → Prog (TpuEff nD τ sig (Elt F) Λ₀ .tc) α) (Q : α → sProp 𝕄) :
    (m.view.loc (c : Thread nD τ) ↦{fullShare} f) ⊢ ((m.view.loc (c : Thread nD τ) ↦{fullShare} f) -∗ runs c (P x) Q) -∗
      runs c (.op (.load m r hl) P) Q := by
  iintro H Hk
  iapply (wp_load 𝒱₀ (c : Thread nD τ) none Set.univ (m := m) (Finset.subset_univ _)) $$ H
  rw [hx]
  iexact Hk

theorem run_part1 (Q : _ → sProp 𝕄) :
    iprop(pt c cc0_stg3_0 bt ∗ pt c cc0_stg4_0 ln) ⊢
      ((pt c cc0_stg3_0 bt ∗ pt c cc0_stg4_0 ln) -∗
        Q ⟨c, Scalar.remsi (Scalar.divsi (Dev.word c) 4#32) 2#32, Scalar.remsi (Scalar.divsi (Dev.word c) 1#32) 4#32,
          Scalar.subi 1#32 (Scalar.remsi (Scalar.divsi (Dev.word c) 8#32) 2#32), k0_pay2 c bt ln,
          iota .tc S128x2048 32 [1] iota_S128x2048_d1_w32, 16#32, k0_pay3, k0_pay4, Scalar.extui (Scalar.cmpi .sgt 16#32 0#32), 0#32⟩) -∗
      runs c (k0_part1 (F := F) mQ wQ mK wK mV wV mB wB mL wL mO wO mA wA mT wT cc0_scratch2 cc0_scratch3) Q := by
  rw [k0_part1_eq_skeleton]
  unfold k0_part1_skel
  simp only [Prog.lift, Prog.bind_op, Prog.bind_ret, Prog.pure_eq_ret, Prog.bind_assoc, wp_deviceId]
  iintro ⟨HB, HL⟩ Hk
  iapply (load_at c mB _ _ bt bt (Memref.readAt_unit_zero (Elt F) cc0_stg3_0 off_zero _ bt)) $$ HB
  iintro HB
  iapply (load_at c mL _ _ ln ln (Memref.readAt_unit_zero (Elt F) cc0_stg4_0 off_zero _ ln)) $$ HL
  iintro HL
  iapply (runs_ret c)
  iapply Hk
  isplitl [HB] <;> iassumption

theorem run_part2 (Q : _ → sProp 𝕄) :
    iprop(pt c cc0_stg0_0 q ∗ pt c cc0_stg1_0 k ∗ pt c cc0_stg2_0 v) ⊢
      ((pt c cc0_stg0_0 q ∗ pt c cc0_stg1_0 k ∗ pt c cc0_stg2_0 v) -∗
        Q ⟨wAt c bt ln, k0_pay6 q, k0_pay7 k, k0_pay8 v, hM (k0_pay6 q) (k0_pay7 k) 0, hL (wAt c bt ln) (k0_pay6 q) (k0_pay7 k) 0,
          hAcc (wAt c bt ln) (k0_pay6 q) (k0_pay7 k) (k0_pay8 v) 0⟩) -∗
      runs c (k0_part2 (F := F) mQ wQ mK wK mV wV mB wB mL wL mO wO mA wA mT wT cc0_scratch2 cc0_scratch3 (k0_pay2 c bt ln) (iota .tc S128x2048 32 [1] iota_S128x2048_d1_w32) 16#32 k0_pay3 k0_pay4
        (Scalar.extui (Scalar.cmpi .sgt 16#32 0#32)) 0#32) Q := by
  rw [k0_part2_eq_skeleton]
  unfold k0_part2_skel
  simp only [Prog.lift, Prog.bind_op, Prog.bind_ret, Prog.pure_eq_ret, Prog.bind_assoc]
  iintro ⟨H0, H1, H2⟩ Hk
  iapply (load_at c mQ _ _ q q (Memref.readAt_unit_zero (Elt F) cc0_stg0_0 off_zero _ q)) $$ H0
  iintro H0
  iapply (load_at c mK _ _ k k (Memref.readAt_unit_zero (Elt F) cc0_stg1_0 off_zero _ k)) $$ H1
  iintro H1
  iapply (load_at c mV _ _ v v (Memref.readAt_unit_zero (Elt F) cc0_stg2_0 off_zero _ v)) $$ H2
  iintro H2
  rw [runs_ret_eq c ⟨wAt c bt ln, k0_pay6 q, k0_pay7 k, k0_pay8 v, hM (k0_pay6 q) (k0_pay7 k) 0, hL (wAt c bt ln) (k0_pay6 q) (k0_pay7 k) 0,
          hAcc (wAt c bt ln) (k0_pay6 q) (k0_pay7 k) (k0_pay8 v) 0⟩]
  rotate_left
  · rfl
  iapply (runs_ret c)
  iapply Hk
  isplitl [H0]; · iexact H0
  isplitl [H1] <;> iassumption

end

/-! ## The whole -/

section
variable (cA : Dev nD → CA (F := F)) (cT : Dev nD → CT (F := F)) (hfA : ∀ c, FreeA (cA c)) (hfT : ∀ c, FreeT (cT c))
variable (K : GSem nD τ sig → ℕ) (c : Dev nD)
variable (q : Vec F S16x1024 .bf16) (k v : Vec F S2048x1024 .bf16) (bt : Vec F S16x128 .i32) (ln : Vec F S16x1 .i32)

/-- The last head's result, as the body computes it. -/
theorem last_head (fa fb inv : FVec F S16x16 .f32) (g : CA (F := F)) :
    k0_pay1 inv (k0_pay123 fa fb (ldA g 0 15) (ldA g 1 15)) = oHead fa fb inv g 15 := rfl

/-- The five inputs in their blocks. -/
def inputs : sProp 𝕄 := iprop(pt c cc0_stg0_0 q ∗ pt c cc0_stg1_0 k ∗ pt c cc0_stg2_0 v ∗ pt c cc0_stg3_0 bt ∗ pt c cc0_stg4_0 ln)

include hfA hfT in
theorem body_run (hcA : cA c = accAt c q k v bt ln) (hcT : cT c = statAt c q k bt ln) (W : Waits sig Unit)
    (f : (cc0_stg5_0 : Ref sig .tc).ty.Contents (Elt F)) (fA : CA (F := F)) (fT : CT (F := F)) (Q : PUnit → sProp 𝕄) :
    iprop(talkPre cA cT K c W ∗ inputs c q k v bt ln ∗ pt c cc0_stg5_0 f ∗ pt c cc0_scratch0 fA ∗ pt c cc0_scratch1 fT) ⊢
      iprop((talkPost c ∗ inputs c q k v bt ln ∗ pt c cc0_stg5_0 (outAt cA cT c) ∗ (∃ f, pt c cc0_scratch0 f) ∗ (∃ f, pt c cc0_scratch1 f) -∗ Q ⟨⟩) -∗
        runs c (cc0_body (F := F) mQ wQ mK wK mV wV mB wB mL wL mO wO mA wA mT wT cc0_scratch2 cc0_scratch3) Q) := by
  have hA : ∀ i : S2x16x16x64.Idx, (i 0).val = 0 → acc6 (wAt c bt ln) (k0_pay6 q) (k0_pay7 k) (k0_pay8 v) fA 16 i = cA c i := fun i h0 => by
    rw [hcA]; exact if_pos ⟨h0, (i 1).isLt⟩
  have hT : ∀ i : S2x2x16x16.Idx, (i 0).val = 0 → stat7 (wAt c bt ln) (k0_pay6 q) (k0_pay7 k) fT 2 i = cT c i := fun i h0 => by
    rw [hcT]; exact if_pos ⟨h0, (i 1).isLt⟩
  rw [cc0_body_eq_skeleton]
  unfold cc0_body_skel inputs
  iintro ⟨Htalk, ⟨H0, H1, H2, H3, H4⟩, HO, HA, HT⟩ Hk
  unfold runs
  rw [wp_bind]
  iapply (run_part1 c bt ln) $$ [H3 H4]
  · isplitl [H3] <;> iassumption
  iintro ⟨H3, H4⟩
  dsimp only
  rw [wp_bind]
  iapply (run_part2 c q k v bt ln) $$ [H0 H1 H2]
  · isplitl [H0]; · iexact H0
    isplitl [H1] <;> iassumption
  iintro ⟨H0, H1, H2⟩
  dsimp only
  ihave HA := (Entails.of_eq (show pt c cc0_scratch0 fA = pt c cc0_scratch0 (acc6 (wAt c bt ln) (k0_pay6 q) (k0_pay7 k) (k0_pay8 v) fA 0) from by rw [acc6_zero])) $$ HA
  rw [wp_bind]
  iapply (run_part3 (wAt c bt ln) (k0_pay6 q) (k0_pay7 k) (k0_pay8 v) c fA) $$ HA
  iintro HA
  dsimp only
  rw [wp_bind]
  iapply (run_part4 (wAt c bt ln) (k0_pay6 q) (k0_pay7 k) (k0_pay8 v) c fA) $$ HA
  iintro HA
  dsimp only
  rw [wp_bind]
  iapply (run_part5 (wAt c bt ln) (k0_pay6 q) (k0_pay7 k) (k0_pay8 v) c fA) $$ HA
  iintro HA
  dsimp only
  rw [wp_bind]
  iapply (run_part6 (wAt c bt ln) (k0_pay6 q) (k0_pay7 k) (k0_pay8 v) c fA) $$ HA
  iintro HA
  dsimp only
  rw [wp_bind]
  iapply (run_part7 (wAt c bt ln) (k0_pay6 q) (k0_pay7 k) (k0_pay8 v) c fA) $$ HA
  iintro HA
  dsimp only
  rw [wp_bind]
  iapply (run_part8 (wAt c bt ln) (k0_pay6 q) (k0_pay7 k) (k0_pay8 v) c fA) $$ HA
  iintro HA
  dsimp only
  rw [wp_bind]
  iapply (run_part9 (wAt c bt ln) (k0_pay6 q) (k0_pay7 k) (k0_pay8 v) c _ _ fA fT) $$ [HA HT]
  · isplitl [HA] <;> iassumption
  iintro ⟨HA, HT⟩
  dsimp only
  simp only [wp_bind]
  iapply (exchange cA cT hfA hfT K c _ _ _ _ _ _ _ hA hT W _) $$ [Htalk HA HT]
  · isplitl [Htalk]; · iexact Htalk
    isplitl [HA] <;> iassumption
  iintro ⟨Htalk, HA, HT⟩
  dsimp only
  have hout : outAt cA cT c = outFull (k0_pay101 (mOwn (bothT (cT c) (cT (peer c)))) (mFar (bothT (cT c) (cT (peer c))))) (k0_pay102 (mOwn (bothT (cT c) (cT (peer c)))) (mFar (bothT (cT c) (cT (peer c))))) (k0_pay103 (mOwn (bothT (cT c) (cT (peer c)))) (lOwn (bothT (cT c) (cT (peer c)))) (mFar (bothT (cT c) (cT (peer c)))) (lFar (bothT (cT c) (cT (peer c))))) (bothA (cA c) (cA (peer c))) := rfl
  rw [hout]
  iapply (run_part13 (bothA (cA c) (cA (peer c))) c (mOwn (bothT (cT c) (cT (peer c)))) (lOwn (bothT (cT c) (cT (peer c)))) (mFar (bothT (cT c) (cT (peer c)))) (lFar (bothT (cT c) (cT (peer c)))) f) $$ [HA HO]
  · isplitl [HA] <;> iassumption
  iintro ⟨HA, HO⟩
  dsimp only
  clear hout
  generalize k0_pay101 (mOwn (bothT (cT c) (cT (peer c)))) (mFar (bothT (cT c) (cT (peer c)))) = fa
  generalize k0_pay102 (mOwn (bothT (cT c) (cT (peer c)))) (mFar (bothT (cT c) (cT (peer c)))) = fb
  generalize k0_pay103 (mOwn (bothT (cT c) (cT (peer c)))) (lOwn (bothT (cT c) (cT (peer c)))) (mFar (bothT (cT c) (cT (peer c)))) (lFar (bothT (cT c) (cT (peer c)))) = inv
  generalize (bothA (cA c) (cA (peer c))) = g
  iapply (run_part14 fa fb inv g c f) $$ [HA HO]
  · isplitl [HA] <;> iassumption
  iintro ⟨HA, HO⟩
  iapply (run_part15 fa fb inv g c f) $$ [HA HO]
  · isplitl [HA] <;> iassumption
  iintro ⟨HA, HO⟩
  iapply (run_part16 fa fb inv g c f) $$ [HA HO]
  · isplitl [HA] <;> iassumption
  iintro ⟨HA, HO⟩
  dsimp only
  iapply (run_part17 fa fb inv g c f) $$ [HA HO]
  · isplitl [HA] <;> iassumption
  iintro ⟨HA, HO⟩
  iapply (run_part18 fa fb inv g c f) $$ [HA HO]
  · isplitl [HA] <;> iassumption
  iintro ⟨HA, HO⟩
  iapply (run_part19 fa fb inv g c f) $$ [HA HO]
  · isplitl [HA] <;> iassumption
  iintro ⟨HA, HO⟩
  simp only [Prog.lift, Prog.pure_eq_ret, ← wp_bind]
  simp only [Prog.bind_op, Prog.bind_ret]
  iapply (out_step fa fb inv g c 15 960 (by decide) rfl f _ (last_head _ _ _ _)) $$ HO
  rw [outUpTo_full]
  iintro HO
  iapply (runs_ret c)
  iapply Hk
  isplitl [Htalk]; · iexact Htalk
  isplitl [H0 H1 H2 H3 H4]
  · isplitl [H0]; · iexact H0
    isplitl [H1]; · iexact H1
    isplitl [H2]; · iexact H2
    isplitl [H3] <;> iassumption
  isplitl [HO]; · iexact HO
  isplitl [HA]
  · iexists _; iexact HA
  · iexists _; iexact HT

end

end Cert.Proof.KernelIdeal

end
-- ==== Proof.Launch.lean ====
/-
# The whole program's run

@main reshapes four of its arguments, calls the kernel once, and reshapes the result. From any memory with zero
counters every run ends with the arguments unchanged, the counters at zero, and device `c`'s result equal to
`outAt`, reshaped, of what the devices compute from the arguments they were started with.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.FrameBody

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The buffers' contents along @main -/

/-- A device's unscoped buffers. -/
def bufs : Finset (DevRef τ sig) := (StableHlo.tcRefs τ sig).filter fun b => ¬ b.isScoped

/-- Their contents at launch, at the call, -/
abbrev V₀ (c : Dev nD) : Valuation τ sig (Elt F) := fun b => m (c, b)
abbrev V₁ (c : Dev nD) : Valuation τ sig (Elt F) := StableHlo.after hostOps0 (V₀ m c)

/-- the call's five operands on device `c`, -/
def inQ (c : Dev nD) : Vec F S16x1024 .bf16 := V₁ m c (Proc.devRef .tc main_v2)
def inK (c : Dev nD) : Vec F S2048x1024 .bf16 := V₁ m c (Proc.devRef .tc main_v3)
def inV (c : Dev nD) : Vec F S2048x1024 .bf16 := V₁ m c (Proc.devRef .tc main_v4)
def inB (c : Dev nD) : Vec F S16x128 .i32 := V₁ m c (Proc.devRef .tc main_arg3)
def inL (c : Dev nD) : Vec F S16x1 .i32 := V₁ m c (Proc.devRef .tc main_v1)

/-- what each device sends, -/
def sendsA (c : Dev nD) : CA (F := F) := accAt c (inQ m c) (inK m c) (inV m c) (inB m c) (inL m c)
def sendsT (c : Dev nD) : CT (F := F) := statAt c (inQ m c) (inK m c) (inB m c) (inL m c)
/-- the call's result, -/
def result (c : Dev nD) : Vec F S16x1024 .f32 := outAt (sendsA m) (sendsT m) c

/-- and the contents after the call and at the end. -/
abbrev V₂ (c : Dev nD) : Valuation τ sig (Elt F) := Function.update (V₁ m c) (Proc.devRef .tc main_v5) (result m c)
abbrev V₃ (c : Dev nD) : Valuation τ sig (Elt F) := StableHlo.after hostOps1 (V₂ m c)

theorem free_sendsA (c : Dev nD) : FreeA (sendsA m c) := accFull_free _ _ _ _
theorem free_sendsT (c : Dev nD) : FreeT (sendsT m c) := statFull_free _ _ _

/-! ## The call's proof data -/

theorem ownSems_eq (c : Dev nD) : (Pipeline.ownSems0 osem c : sProp 𝕄)
    = iprop(semVal (oC c 0) 0 ∗ semVal (oC c 1) 0 ∗ semVal (oC c 2) 0 ∗ semVal (oC c 3) 0) :=
  bigSep_univ_eq_bigSepL [(0 : Fin 4), 1, 2, 3] (by decide) (by decide) (fun k : Fin 4 => (semVal (oC c k) 0 : sProp 𝕄))

/-- The scratch buffers, at any contents. -/
def scratch (c : Dev nD) : sProp 𝕄 := iprop((∃ f, pt c cc0_scratch0 f) ∗ (∃ f, pt c cc0_scratch1 f))

/-- What the protocol brings to the call, what its entry makes of it, and what the call leaves of it. -/
def brings (c : Dev nD) : sProp 𝕄 := iprop((∃ K, ghost (sendsA m) (sendsT m) K c) ∗ creds c)
def enters (c : Dev nD) : sProp 𝕄 := iprop((∃ K, opened (sendsA m) (sendsT m) K c) ∗ creds c ∗ levAts L lv)
def leaves (c : Dev nD) : sProp 𝕄 := semVal (barC c) 0

/-- The call's invariant before and after its one point. -/
def Φ₀ (c : Dev nD) : sProp 𝕄 := iprop(enters m c ∗ scratch c ∗ ∃ r, prngReg c r)
def Φ₁ (c : Dev nD) : sProp 𝕄 := iprop(leaves c ∗ (semVal (oC c 0) 0 ∗ semVal (oC c 1) 0 ∗ semVal (oC c 2) 0 ∗ semVal (oC c 3) 0) ∗ scratch c ∗ ∃ r, prngReg c r)

def dat0 (c : Dev nD) : Dat τ (Elt F) Unit ℕ UU ℕ cfg0 c where
  A w := V₁ m c (Proc.devRef .tc (Pipeline.arrRef spec0 w))
  after w _ := match w with
    | ⟨0, _⟩ => inQ m c
    | ⟨1, _⟩ => inK m c
    | ⟨2, _⟩ => inV m c
    | ⟨3, _⟩ => inB m c
    | ⟨4, _⟩ => inL m c
    | ⟨5, _⟩ => result m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat0 m c

theorem owed_zero (c : Dev nD) : (pdats m 0 c).owed 0 = O₀ c := by
  show (if ((0 : Fin (cfg0.N + 1)).val = 0) then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]
theorem Φ_zero (c : Dev nD) : (pdats m 0 c).Φ 0 = Φ₀ m c := by
  show (if ((0 : Fin (cfg0.N + 1)).val = 0) then Φ₀ m c else Φ₁ c) = Φ₀ m c; exact if_pos rfl
theorem Φ_last (c : Dev nD) : (pdats m 0 c).Φ (Fin.last _) = Φ₁ c := by
  show (if (Fin.last cfg0.N).val = 0 then Φ₀ m c else Φ₁ c) = Φ₁ c
  rw [Fin.val_last, if_neg (by rw [show cfg0.N = 1 from N_0]; decide)]

/-! ## The body's obligation -/

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- A window's one block is its whole array, element by element. -/
theorem rect_whole (w : Fin 6) (i : ((cfg0.win w).rect t0_0).shape.Idx) (a) : (((cfg0.win w).rect t0_0).emb i a).val = (i a).val := by
  rw [Rect.emb_apply]
  fin_cases w
  all_goals
    show 0 * _ + 1 * _ = _
    omega
theorem read_0 (X : main_v2.ty.Contents (Elt F)) : ((cfg0.win 0).blk t0_0).view.read (Elt F) X = X :=
  funext fun i => congrArg X (funext fun a => Fin.ext (rect_whole 0 i a))
theorem before_0 (c : Dev nD) (d) : (dat0 m c).before (0 : Fin 6) t0_0 d = inQ m c := by
  unfold Dat.before; rw [if_pos (fetch0_0 t0_0)]
  exact read_0 (inQ m c)
theorem read_1 (X : main_v3.ty.Contents (Elt F)) : ((cfg0.win 1).blk t0_0).view.read (Elt F) X = X :=
  funext fun i => congrArg X (funext fun a => Fin.ext (rect_whole 1 i a))
theorem before_1 (c : Dev nD) (d) : (dat0 m c).before (1 : Fin 6) t0_0 d = inK m c := by
  unfold Dat.before; rw [if_pos (fetch0_1 t0_0)]
  exact read_1 (inK m c)
theorem read_2 (X : main_v4.ty.Contents (Elt F)) : ((cfg0.win 2).blk t0_0).view.read (Elt F) X = X :=
  funext fun i => congrArg X (funext fun a => Fin.ext (rect_whole 2 i a))
theorem before_2 (c : Dev nD) (d) : (dat0 m c).before (2 : Fin 6) t0_0 d = inV m c := by
  unfold Dat.before; rw [if_pos (fetch0_2 t0_0)]
  exact read_2 (inV m c)
theorem read_3 (X : main_arg3.ty.Contents (Elt F)) : ((cfg0.win 3).blk t0_0).view.read (Elt F) X = X :=
  funext fun i => congrArg X (funext fun a => Fin.ext (rect_whole 3 i a))
theorem before_3 (c : Dev nD) (d) : (dat0 m c).before (3 : Fin 6) t0_0 d = inB m c := by
  unfold Dat.before; rw [if_pos (fetch0_3 t0_0)]
  exact read_3 (inB m c)
theorem read_4 (X : main_v1.ty.Contents (Elt F)) : ((cfg0.win 4).blk t0_0).view.read (Elt F) X = X :=
  funext fun i => congrArg X (funext fun a => Fin.ext (rect_whole 4 i a))
theorem before_4 (c : Dev nD) (d) : (dat0 m c).before (4 : Fin 6) t0_0 d = inL m c := by
  unfold Dat.before; rw [if_pos (fetch0_4 t0_0)]
  exact read_4 (inL m c)
theorem emb_5 (i : main_v5.ty.Idx) : ((cfg0.win 5).blk t0_0).view.emb i = i := funext fun a => Fin.ext (rect_whole 5 i a)
theorem read_5 (X : main_v5.ty.Contents (Elt F)) : ((cfg0.win 5).blk t0_0).view.read (Elt F) X = X :=
  funext fun i => congrArg X (emb_5 i)

/-- The result's array, once flushed. -/
theorem array_5 (c : Dev nD) : (dat0 m c).arrAt (5 : Fin 6) cfg0.N = result m c :=
  (dat0 m c).arrAt_eq_of_cover (5 : Fin 6) (result m c)
    (fun t _ => by
      obtain rfl := fin_N0 t
      exact (read_5 (result m c)).symm)
    (fun i => ⟨t0_0, flush0_5 t0_0, Finset.mem_map.mpr ⟨i, Finset.mem_univ i, emb_5 i⟩⟩)

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ := by first | rfl | skip) :
    (owes (c : Thread nD τ) O W : sProp 𝕄) ⊢ (dat.owesAt () t : sProp 𝕄) := by
  unfold Dat.owesAt Pipeline.owesWithin Dat.bound; rw [h0, hr]
  iintro HO; iexists W
  isplitr [HO]
  · ipureintro; exact fun _ _ => .inl trivial
  · iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩
  iexists W
  iexact HO

theorem body_obligation (c : Dev nD) : BodyObligation (dat0 m c) defs₀ 𝒱₀ () Set.univ := fun t => by
  obtain rfl := fin_N0 t
  rw [bigSep_W0, bigSep_W0]
  simp only [owns_stg, before_0, before_1, before_2, before_3, before_4]
  show iprop(Φ₀ m c ∗ (dat0 m c).owesAt () t0_0.castSucc ∗ (∃ _ : Vec F S16x1024 .bf16, stg c cc0_stg0_0 (inQ m c)) ∗ (∃ _ : Vec F S2048x1024 .bf16, stg c cc0_stg1_0 (inK m c))
      ∗ (∃ _ : Vec F S2048x1024 .bf16, stg c cc0_stg2_0 (inV m c)) ∗ (∃ _ : Vec F S16x128 .i32, stg c cc0_stg3_0 (inB m c)) ∗ (∃ _ : Vec F S16x1 .i32, stg c cc0_stg4_0 (inL m c))
      ∗ (∃ d, stg c cc0_stg5_0 ((dat0 m c).before 5 t0_0 d)))
    ⊢ runs c (cc0_body (F := F) mQ wQ mK wK mV wV mB wB mL wL mO wO mA wA mT wT cc0_scratch2 cc0_scratch3)
      (fun _ => iprop(Φ₁ c ∗ (dat0 m c).owesAt () t0_0.succ ∗ stg c cc0_stg0_0 (inQ m c) ∗ stg c cc0_stg1_0 (inK m c) ∗ stg c cc0_stg2_0 (inV m c)
        ∗ stg c cc0_stg3_0 (inB m c) ∗ stg c cc0_stg4_0 (inL m c) ∗ stg c cc0_stg5_0 (result m c)))
  unfold Φ₀ Φ₁ enters leaves scratch
  iintro ⟨⟨⟨⟨%K, Ho⟩, Hcr, Hlev⟩, ⟨⟨%fA, HA⟩, ⟨%fT, HT⟩⟩, Hreg⟩, HO, ⟨%d0, %f0, %e0, H0⟩, ⟨%d1, %f1, %e1, H1⟩, ⟨%d2, %f2, %e2, H2⟩, ⟨%d3, %f3, %e3, H3⟩, ⟨%d4, %f4, %e4, H4⟩, ⟨%d, %f5, -, H5⟩⟩
  subst e0 e1 e2 e3 e4
  ihave HO' := (owesAt_elim (dat0 m c) _ (O₀ c) (owed_first m c)) $$ HO
  icases HO' with ⟨%W, HO⟩
  iapply (body_run (sendsA m) (sendsT m) (free_sendsA m) (free_sendsT m) K c (inQ m c) (inK m c) (inV m c) (inB m c) (inL m c) rfl rfl W f5 fA fT _) $$ [Ho Hcr Hlev HO H0 H1 H2 H3 H4 H5 HA HT]
  · unfold talkPre inputs
    isplitl [Ho Hcr Hlev HO]
    · isplitl [Ho]; · iexact Ho
      isplitl [Hcr]; · iexact Hcr
      isplitl [Hlev]; · iexact Hlev
      iexact HO
    isplitl [H0 H1 H2 H3 H4]
    · isplitl [H0]; · iexact H0
      isplitl [H1]; · iexact H1
      isplitl [H2]; · iexact H2
      isplitl [H3]; · iexact H3
      iexact H4
    isplitl [H5]; · iexact H5
    isplitl [HA]; · iexact HA
    iexact HT
  unfold talkPost inputs
  iintro ⟨⟨Hb, Hos, ⟨%W', HO⟩⟩, ⟨H0, H1, H2, H3, H4⟩, H5, HA, HT⟩
  isplitl [Hb Hos HA HT Hreg]
  · isplitl [Hb]; · iexact Hb
    isplitl [Hos]; · iexact Hos
    isplitl [HA HT]
    · isplitl [HA]; · iexact HA
      iexact HT
    iexact Hreg
  isplitl [HO]; · iapply (owesAt_intro (dat0 m c) t0_0.succ 0 (owed_last m c) W'); iexact HO
  isplitl [H0]; · iexists _; isplitr [H0]; · ipureintro; rfl
                  iexact H0
  isplitl [H1]; · iexists _; isplitr [H1]; · ipureintro; rfl
                  iexact H1
  isplitl [H2]; · iexists _; isplitr [H2]; · ipureintro; rfl
                  iexact H2
  isplitl [H3]; · iexists _; isplitr [H3]; · ipureintro; rfl
                  iexact H3
  isplitl [H4]; · iexists _; isplitr [H4]; · ipureintro; rfl
                  iexact H4
  iexists _; isplitr [H5]; · ipureintro; rfl
  iexact H5

/-! ## The three segments -/

theorem opening (c : Dev nD) : iprop(brings m c ∗ Pipeline.ownSems0 osem c ∗ levAts L lv) ⊢ (|={Set.univ}=> enters m c : sProp 𝕄) := by
  rw [ownSems_eq]
  unfold brings enters ghost opened
  iintro ⟨⟨⟨%K, #HI, Hat, ⟨Ho0, Ho1, Ho2, Ho3⟩, #HrP, Hpays⟩, Hcr⟩, ⟨Hs0, Hs1, Hs2, Hs3⟩, #Hlev⟩
  ihave HI' := (show invs (sendsA m) (sendsT m) K c ⊢ iprop(cellInv ER (talk (sendsA m) (sendsT m)) (K (oC c 0)) (oC c 0)
      ∗ cellInv ER (talk (sendsA m) (sendsT m)) (K (oC c 1)) (oC c 1) ∗ cellInv ER (talk (sendsA m) (sendsT m)) (K (oC c 2)) (oC c 2)
      ∗ cellInv ER (talk (sendsA m) (sendsT m)) (K (oC c 3)) (oC c 3)) from by
    unfold invs
    iintro ⟨-, H0, H1, H2, H3, -⟩
    isplitl [H0]; · iexact H0
    isplitl [H1]; · iexact H1
    isplitl [H2] <;> iassumption) $$ HI
  icases HI' with ⟨#HI0, #HI1, #HI2, #HI3⟩
  imod (Rounds.cell_open ER (talk (sendsA m) (sendsT m)) (g := oC c 0) (Set.mem_univ (K (oC c 0)))) $$ [Ho0 Hs0] with ⟨Ha0, #Hr0⟩
  · isplitr; · iexact HI0
    isplitl [Ho0] <;> iassumption
  imod (Rounds.cell_open ER (talk (sendsA m) (sendsT m)) (g := oC c 1) (Set.mem_univ (K (oC c 1)))) $$ [Ho1 Hs1] with ⟨Ha1, #Hr1⟩
  · isplitr; · iexact HI1
    isplitl [Ho1] <;> iassumption
  imod (Rounds.cell_open ER (talk (sendsA m) (sendsT m)) (g := oC c 2) (Set.mem_univ (K (oC c 2)))) $$ [Ho2 Hs2] with ⟨Ha2, #Hr2⟩
  · isplitr; · iexact HI2
    isplitl [Ho2] <;> iassumption
  imod (Rounds.cell_open ER (talk (sendsA m) (sendsT m)) (g := oC c 3) (Set.mem_univ (K (oC c 3)))) $$ [Ho3 Hs3] with ⟨Ha3, #Hr3⟩
  · isplitr; · iexact HI3
    isplitl [Ho3] <;> iassumption
  imodintro
  isplitl [Hat Ha0 Ha1 Ha2 Ha3 Hpays]
  · iexists K
    isplitr; · iexact HI
    isplitl [Hat]; · iexact Hat
    isplitl [Ha0 Ha1 Ha2 Ha3]
    · isplitl [Ha0]; · iexact Ha0
      isplitl [Ha1]; · iexact Ha1
      isplitl [Ha2] <;> iassumption
    isplitr
    · isplitr; · iexact Hr0
      isplitr; · iexact Hr1
      isplitr; · iexact Hr2
      iexact Hr3
    isplitr; · iexact HrP
    iexact Hpays
  isplitl [Hcr]; · iexact Hcr
  iexact Hlev

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem scoped_rest (c : Dev nD) : (Pipeline.scopedRest (Ix := Unit) (Name := ℕ) (U := UU) (Lvl := ℕ) (Val := Elt F) (Pipeline.pin (pcfgs (F := F)) adm 0).spec c : sProp 𝕄)
    = scratch c := scopedRest0_eq c

theorem held_none (c : Dev nD) (W : Valuation τ sig (Elt F)) : (StableHlo.held (c.tc : Thread nD τ) ∅ W : sProp 𝕄) = BI.emp := by
  unfold StableHlo.held; exact BI.bigSep_empty

theorem entering (c : Dev nD) : iprop(Pipeline.scopedRest (Pipeline.pin (pcfgs (F := F)) adm 0).spec c ∗ (∃ r, prngReg c r)
      ∗ StableHlo.held (c.tc : Thread nD τ) ∅ (V₁ m c) ∗ enters m c) ⊢ (pdats m 0 c).Φ 0 := by
  rw [Φ_zero, scoped_rest]
  unfold Φ₀
  iintro ⟨Hs, Hp, -, He⟩
  isplitl [He]; · iexact He
  isplitl [Hs] <;> iassumption

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ leaves c) := by
  rw [Φ_last, scoped_rest, held_none, ownSems_eq]
  unfold Φ₁
  iintro ⟨Hl, Ho, Hs, Hp⟩
  isplitl [Hs]; · iexact Hs
  isplitl [Hp]; · iexact Hp
  isplitr; · iempintro
  isplitl [Ho] <;> iassumption

theorem owed_cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · rcases O₀_pos h with rfl | rfl | rfl
    · exact ⟨mem_L _ _ _, by rw [lv_three]; decide⟩
    · exact ⟨mem_L _ _ _, by rw [lv_two]; decide⟩
    · exact ⟨mem_L _ _ _, by rw [lv_bar]; decide⟩
  · exact absurd h (Nat.lt_irrefl 0)

theorem staging_level : ∀ (w : Fin 6) (s : Fin (win0 w).nbuf),
    (.dma ((win0 w).sem s) : SemLoc sig) ≠ .reg barS ∧ ∀ k : Fin 4, (.dma ((win0 w).sem s) : SemLoc sig) ≠ osem k := by decide

theorem V₂_arg (c : Dev nD) (b : DevRef τ sig) (h : b ≠ Proc.devRef .tc main_v5) : V₂ m c b = V₁ m c b := Function.update_of_ne h _ _
theorem V₂_v5 (c : Dev nD) : V₂ m c (Proc.devRef .tc main_v5) = result m c := Function.update_self _ _ _

theorem array_end (c : Dev nD) (w : Fin 6) : (dat0 m c).arrAt w cfg0.N = V₂ m c (Proc.devRef .tc (Pipeline.arrRef spec0 w)) := by
  fin_cases w
  · exact ((dat0 m c).arrAt_in (0 : Fin 6) rfl _).trans (V₂_arg m c (Proc.devRef .tc main_v2) (by decide)).symm
  · exact ((dat0 m c).arrAt_in (1 : Fin 6) rfl _).trans (V₂_arg m c (Proc.devRef .tc main_v3) (by decide)).symm
  · exact ((dat0 m c).arrAt_in (2 : Fin 6) rfl _).trans (V₂_arg m c (Proc.devRef .tc main_v4) (by decide)).symm
  · exact ((dat0 m c).arrAt_in (3 : Fin 6) rfl _).trans (V₂_arg m c (Proc.devRef .tc main_arg3) (by decide)).symm
  · exact ((dat0 m c).arrAt_in (4 : Fin 6) rfl _).trans (V₂_arg m c (Proc.devRef .tc main_v1) (by decide)).symm
  · exact (array_5 m c).trans (V₂_v5 m c).symm

/-- The buffers the call's windows do not stage. -/
def others : Finset (DevRef τ sig) := bufs \ Pipeline.arrRefs (τ := τ) spec0

theorem split_bufs (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) others W) :=
  StableHlo.held_sub_split (c : Thread nD τ) (by decide) W

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides along before the call, and after it. -/
def ride (c : Dev nD) : sProp 𝕄 := iprop(brings m c ∗ (∃ r, prngReg c r) ∗ ∃ W, owes (c : Thread nD τ) (O₀ c) W)
def rode (c : Dev nD) : sProp 𝕄 := iprop(leaves c ∗ ∃ W, owes (c : Thread nD τ) (0 : CellTallies nD τ sig Unit) W)

theorem ops0_bufs : ∀ op ∈ (hostOps0 : List (HloOp τ sig (Elt F))), op.bufs ⊆ bufs := fun op h => Pipeline.sub_ucRefs op ((List.forall_iff_forall_mem.mp hostOps0_sub) op h)
theorem ops1_bufs : ∀ op ∈ (hostOps1 : List (HloOp τ sig (Elt F))), op.bufs ⊆ bufs := fun op h => Pipeline.sub_ucRefs op ((List.forall_iff_forall_mem.mp hostOps1_sub) op h)

def seg0 : ℍ := Pipeline.HostSeg.ofOps _ _ _ _ _ bufs hostOps0 ops0_bufs (List.forall_iff_forall_mem.mp hostOps0_fresh) (V₀ m) (ride m)
def seg2 : ℍ := Pipeline.HostSeg.ofOps _ _ _ _ _ bufs hostOps1 ops1_bufs (List.forall_iff_forall_mem.mp hostOps1_fresh) (V₂ m) rode

set_option backward.isDefEq.respectTransparency.types false in
def seg1 : ℝ𝕊 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_obligation m c).loose)
    (fun _ => 0) O₀ (fun c => (owed_zero m c).trans (zero_add _).symm) (owed_last m) (fun _ => rfl)
    (fun _ w => by unfold Dat.share; split <;> rfl)
    (V₁ m) (V₂ m) (fun c b hb => V₂_arg m c b fun e => by subst e; exact absurd hb (by decide))
    (brings m) leaves (enters m) leaves (opening m) (entering m) (leaving m)
    (fun c => by iintro H; imodintro; iexact H)
    (fun _ => 0)
    ⟨fun c w s => mem_L c _ _,
      fun c w s => by
        obtain ⟨h, h'⟩ := staging_level w s
        show lv ((c : Thread nD τ), .dma ((win0 w).sem s)) () ≤ 0
        dsimp only [lv]
        rw [if_neg h, if_neg (fun e => e.elim (h' 2) (h' 3))],
      fun c t g i h => owed_cut m c t g i h⟩
    (fun _ => iprop(emp))
    (fun c w => rfl) (fun c w => array_end m c w)

theorem seg1_pre (c : Dev nD) : iprop(StableHlo.held (c : Thread nD τ) bufs (V₁ m c) ∗ ride m c) ⊢ (seg1 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ brings m c ∗ ∃ Wd, owes (c : Thread nD τ) (0 + O₀ c) Wd)
  rw [split_bufs, zero_add]
  unfold ride
  iintro ⟨⟨Ha, Ho⟩, Hb, Hp, HO⟩
  isplitl [Ha]; · iexact Ha
  isplitl [Hp]; · iexact Hp
  isplitl [Ho]
  · isplitl [Ho]; · iexact Ho
    iempintro
  isplitl [Hb] <;> iassumption

theorem seg1_post (c : Dev nD) : (seg1 m).post c ⊢ iprop(StableHlo.held (c : Thread nD τ) bufs (V₂ m c) ∗ rode c) := by
  show iprop(StableHlo.held (c.tc : Thread nD τ) (Pipeline.arrRefs (τ := τ) (pcfgs (F := F) 0).spec) (V₂ m c) ∗ (∃ r, prngReg c r)
    ∗ (StableHlo.held (c.tc : Thread nD τ) others (V₂ m c) ∗ emp) ∗ leaves c ∗ ∃ Wd, owes (c : Thread nD τ) (0 : CellTallies nD τ sig Unit) Wd) ⊢ _
  rw [split_bufs]
  unfold rode
  iintro ⟨Ha, -, ⟨Ho, -⟩, Hb, HO⟩
  isplitl [Ha Ho]; · isplitl [Ha] <;> iassumption
  isplitl [Hb] <;> iassumption

def segs : List (Pipeline.Seg (pcfgs (F := F)) adm (pdats m) () defs₀ 𝒱₀ L lv) := [.host (seg0 m), .region (seg1 m), .host (seg2 m)]

theorem main_run (c : Dev nD) : main (F := F) c = Pipeline.Seg.run (segs m) := main_segs adm (pdats m) () 𝒱₀ L lv (seg0 m) (seg2 m) (seg1 m) rfl rfl c

/-! ## The launch -/

def barEmb : Dev nD ↪ GSem nD τ sig := ⟨barC, fun _ _ h => congrArg (fun g : GSem nD τ sig => g.1.1) h⟩
def ownEmb : Dev nD × Fin 4 ↪ GSem nD τ sig :=
  ⟨fun p => oC p.1 p.2, fun _ _ h => Prod.ext (congrArg (fun g : GSem nD τ sig => g.1.1) h) (osem_inj (congrArg Prod.snd h))⟩

/-- The barrier cells, and the cells of the kernel's own counters. -/
abbrev barCells : Finset (GSem nD τ sig) := Finset.univ.map barEmb
abbrev ownCells : Finset (GSem nD τ sig) := Finset.univ.map ownEmb

/-- Every cell of a device that counts. -/
abbrev tsem : Fin 5 → SemLoc sig := fun | 0 => .reg barS | 1 => osem 0 | 2 => osem 1 | 3 => osem 2 | 4 => osem 3
theorem tsem_inj : Function.Injective tsem := by decide
def tokens : Finset (GSem nD τ sig × ℕ × Unit) :=
  Finset.univ.map ⟨fun p : Dev nD × Fin 5 => (((p.1 : Thread nD τ), tsem p.2), 0, ()), fun _ _ h =>
    Prod.ext (congrArg (fun t : GSem nD τ sig × ℕ × Unit => t.1.1.1) h) (tsem_inj (congrArg (fun t : GSem nD τ sig × ℕ × Unit => t.1.2) h))⟩

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

abbrev allCells : Finset (GSem nD τ sig) := barCells ∪ ownCells
theorem bar_mem (c : Dev nD) : barC c ∈ (allCells : Finset (GSem nD τ sig)) :=
  Finset.mem_union_left _ (Finset.mem_map_of_mem barEmb (Finset.mem_univ c))
theorem own_mem (c : Dev nD) (k : Fin 4) : oC c k ∈ (allCells : Finset (GSem nD τ sig)) :=
  Finset.mem_union_right _ (Finset.mem_map_of_mem ownEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells ownCells tokens)

/-- All of a resource given to one device. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp 𝕄 := parked (BI.own (ER (launchOf barCells ownCells tokens)))

/-- What every device may consult. -/
def records (κ : GSem nD τ sig → ℕ) : sProp 𝕄 :=
  iprop((bigSep allCells fun g => cellInv ER (talk (sendsA m) (sendsT m)) (κ g) g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ (allCells : Finset (GSem nD τ sig))) :
    (bigSep allCells fun g => (cellInv ER (talk (sendsA m) (sendsT m)) (κ g) g : sProp 𝕄)) ⊢ cellInv ER (talk (sendsA m) (sendsT m)) (κ g) g :=
  bigSep_elim hg
theorem reached_at (c : Dev nD) : (bigSep barCells fun g => (reached ER g 0 : sProp 𝕄)) ⊢ reached ER (barC c) 0 :=
  bigSep_elim (Finset.mem_map_of_mem barEmb (Finset.mem_univ c))

/-- What a device alone holds. -/
def holds (c : Dev nD) : sProp 𝕄 :=
  iprop(atPos ER (barC c) 0 ∅ 0 ∗ (openTok ER (oC c 0) ∗ openTok ER (oC c 1) ∗ openTok ER (oC c 2) ∗ openTok ER (oC c 3)) ∗ pays c)

theorem ghost_intro (κ : GSem nD τ sig → ℕ) (c : Dev nD) : iprop(records m κ ∗ holds c) ⊢ iprop(∃ K, ghost (sendsA m) (sendsT m) K c) := by
  unfold records holds ghost invs
  iintro ⟨⟨#HI, #HR⟩, Ha, Ho, Hp⟩
  iexists κ
  isplitr
  · isplitr; · iapply (inv_at m κ (bar_mem c)); iexact HI
    isplitr; · iapply (inv_at m κ (own_mem c 0)); iexact HI
    isplitr; · iapply (inv_at m κ (own_mem c 1)); iexact HI
    isplitr; · iapply (inv_at m κ (own_mem c 2)); iexact HI
    isplitr; · iapply (inv_at m κ (own_mem c 3)); iexact HI
    isplitr; · iapply (inv_at m κ (bar_mem (peer c))); iexact HI
    isplitr; · iapply (inv_at m κ (own_mem (peer c) 2)); iexact HI
    iapply (inv_at m κ (own_mem (peer c) 3)); iexact HI
  isplitl [Ha]; · iexact Ha
  isplitl [Ho]; · iexact Ho
  isplitr; · iapply (reached_at (F := F) (peer c)); iexact HR
  iexact Hp

/-- A device's five tokens, before they change hands. -/
def toks (c : Dev nD) : sProp 𝕄 :=
  iprop(dutyTok ER (barC c) 0 () ∗ dutyTok ER (oC c 0) 0 () ∗ dutyTok ER (oC c 1) 0 () ∗ dutyTok ER (oC c 2) 0 () ∗ dutyTok ER (oC c 3) 0 ())

theorem toks_eq : bigSep tokens (fun x => (dutyTok ER x.1 x.2.1 x.2.2 : sProp 𝕄)) = bigSep Finset.univ fun c : Dev nD => toks c := by
  unfold tokens; rw [bigSep_map, bigSep_univ_prod]
  exact bigSep_congr fun c _ => bigSep_univ_eq_bigSepL [(0 : Fin 5), 1, 2, 3, 4] (by decide) (by decide)
    (fun k : Fin 5 => (dutyTok ER ((c : Thread nD τ), tsem k) 0 () : sProp 𝕄))

/-- The barrier's token and the arrivals' go to the peer. -/
theorem toks_dealt : (bigSep Finset.univ fun c : Dev nD => (toks c : sProp 𝕄)) ⊢ bigSep Finset.univ fun c : Dev nD => (pays c : sProp 𝕄) := by
  unfold toks pays
  simp only [bigSep_sep']
  rw [bigSep_univ_equiv across (fun c : Dev nD => (dutyTok ER (barC c) 0 () : sProp 𝕄)),
    bigSep_univ_equiv across (fun c : Dev nD => (dutyTok ER (oC c 2) 0 () : sProp 𝕄)),
    bigSep_univ_equiv across (fun c : Dev nD => (dutyTok ER (oC c 3) 0 () : sProp 𝕄))]
  exact BI.Entails.refl _

/-! ## The credit a device is given at launch -/

theorem peer_flip {d c : Dev nD} (h : c = peer d) : d = peer c := by rw [h, peer_peer]

theorem own_ne (c d : Dev nD) {j k : Fin 4} (h : j ≠ k) (p : Prop) : ¬ (oC c j = oC d k ∧ p) := fun e => h (osem_inj (congrArg Prod.snd e.1))
theorem own_bar (c d : Dev nD) (k : Fin 4) (p : Prop) : ¬ (oC c k = barC d ∧ p) := fun e => osem_ne_bar k (congrArg Prod.snd e.1)
theorem bar_own (c d : Dev nD) (k : Fin 4) (p : Prop) : ¬ (barC c = oC d k ∧ p) := fun e => osem_ne_bar k (congrArg Prod.snd e.1).symm
theorem same_dev {c d : Dev nD} (h : ¬ d = peer c) (sm : SemLoc sig) (p : Prop) : ¬ (((c : Thread nD τ), sm) = ((peer d : Thread nD τ), sm) ∧ p) :=
  fun e => h (peer_flip (congrArg (fun g : GSem nD τ sig => g.1.1) e.1))

theorem owed_bar (d c : Dev nD) : O₀ d (barC c) () = if d = peer c then 1 else 0 := by
  unfold O₀ O₁
  rw [Pi.add_apply, Pi.add_apply, Finsupp.add_apply, Finsupp.add_apply, tallyAt_apply, tallyAt_apply, tallyAt_apply, if_neg (bar_own c (peer d) 3 _), if_neg (bar_own c (peer d) 2 _)]
  by_cases h : d = peer c
  · subst h; rw [peer_peer, if_pos ⟨rfl, rfl⟩, if_pos rfl]
  · rw [if_neg (same_dev h _ _), if_neg h]
theorem owed_two (d c : Dev nD) : O₀ d (oC c 2) () = if d = peer c then NA else 0 := by
  unfold O₀ O₁
  rw [Pi.add_apply, Pi.add_apply, Finsupp.add_apply, Finsupp.add_apply, tallyAt_apply, tallyAt_apply, tallyAt_apply,
    if_neg (own_ne c (peer d) (show (2 : Fin 4) ≠ 3 by decide) _), if_neg (own_bar c (peer d) 2 _)]
  by_cases h : d = peer c
  · subst h; rw [peer_peer, if_pos ⟨rfl, rfl⟩, if_pos rfl, Nat.zero_add, Nat.add_zero]
  · rw [if_neg (same_dev h _ _), if_neg h]
theorem owed_three (d c : Dev nD) : O₀ d (oC c 3) () = if d = peer c then NT else 0 := by
  unfold O₀ O₁
  rw [Pi.add_apply, Pi.add_apply, Finsupp.add_apply, Finsupp.add_apply, tallyAt_apply, tallyAt_apply, tallyAt_apply,
    if_neg (own_ne c (peer d) (show (3 : Fin 4) ≠ 2 by decide) _), if_neg (own_bar c (peer d) 3 _)]
  by_cases h : d = peer c
  · subst h; rw [peer_peer, if_pos ⟨rfl, rfl⟩, if_pos rfl, Nat.add_zero]
  · rw [if_neg (same_dev h _ _), if_neg h]

theorem launch_at (c : Dev nD) (sm : SemLoc sig) (n : ℕ) (h : ∀ d, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem creds_intro (c : Dev nD) : (Pipeline.launchCred O₀ c : sProp 𝕄) ⊢ creds c := by
  unfold Pipeline.launchCred creds
  have h2 : osem 2 ∈ Finset.univ.erase (SemLoc.reg barS) := Finset.mem_erase.mpr ⟨osem_ne_bar 2, Finset.mem_univ _⟩
  have h3 : osem 3 ∈ (Finset.univ.erase (SemLoc.reg barS)).erase (osem 2) :=
    Finset.mem_erase.mpr ⟨fun e => absurd (osem_inj e) (by decide), Finset.mem_erase.mpr ⟨osem_ne_bar 3, Finset.mem_univ _⟩⟩
  rw [bigSep_univ_at _ (SemLoc.reg barS), launch_at c (.reg barS) 1 fun d => owed_bar d c, bigSep_erase h2, launch_at c (osem 2) NA fun d => owed_two d c]
  refine sep_mono_right (sep_mono_right ?_)
  rw [← launch_at c (osem 3) NT fun d => owed_three d c]
  exact bigSep_elim h3

/-! ## The run -/

abbrev T₀ (c : Dev nD) : sProp 𝕄 := iprop(StableHlo.held (c : Thread nD τ) bufs (V₀ m c) ∗ ride m c)
abbrev Tₙ (c : Dev nD) : sProp 𝕄 := iprop(StableHlo.held (c : Thread nD τ) bufs (V₃ m c) ∗ leaves c)

theorem unscoped_bar : ∀ sm : SemLoc sig, sm.isScoped .tc = false → sm = .reg barS := by decide

theorem unscoped_sem (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What of a device's launch holdings is not the protocol's ghost state. -/
def bundle (c : Dev nD) : sProp 𝕄 :=
  iprop(StableHlo.held (c : Thread nD τ) bufs (V₀ m c) ∗ creds c ∗ owes (c : Thread nD τ) (O₀ c) ∅ ∗ ∃ r, prngReg c r)

theorem T₀_intro (κ : GSem nD τ sig → ℕ) (c : Dev nD) : iprop(records m κ ∗ (holds c ∗ bundle m c)) ⊢ T₀ m c := by
  unfold bundle T₀ ride brings
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem together {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) bufs (V₀ m c) from Pipeline.unscopedBufs_held c (V₀ m c),
      unscoped_sem]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => iprop(openTok ER (oC c 0) ∗ openTok ER (oC c 1) ∗ openTok ER (oC c 2) ∗ openTok ER (oC c 3))) :=
    Entails.of_eq (by
      rw [bigSep_map, bigSep_univ_prod]
      exact bigSep_congr fun c _ => bigSep_univ_eq_bigSepL [(0 : Fin 4), 1, 2, 3] (by decide) (by decide) (fun k : Fin 4 => (openTok ER (oC c k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells ownCells tokens)) from
    Entails.of_eq (bigSep_parked (F := F) (BI.own (ER (launchOf barCells ownCells tokens))))) $$ HG
  imod (Rounds.fund_launch ER (talk (sendsA m) (sendsT m)) cells_disjoint (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(holds c ∗ bundle m c)) fun c _ => T₀_intro m κ c)
  isplitr
  · unfold records
    isplitr; · iexact Hinv
    iexact Hr
  iapply together
  isplitr [HB]
  · unfold holds
    iapply together; isplitl [Hat]; · iapply hat $$ Hat
    iapply together; isplitl [Hopen]; · iapply hopen $$ Hopen
    iapply (toks_dealt (F := F))
    iapply (Entails.of_eq (toks_eq (F := F))) $$ Htok
  · iexact HB

/-- The arguments and the result, out of the held buffers. -/
theorem bufs_list (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_arg4 (W main_arg4) ∗ pt c main_v1 (W main_v1) ∗ pt c main_v2 (W main_v2) ∗ pt c main_v3 (W main_v3) ∗ pt c main_v4 (W main_v4)
      ∗ pt c main_v5 (W main_v5) ∗ pt c main_v6 (W main_v6)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3, Proc.devRef .tc main_v4,
    Proc.devRef .tc main_v5, Proc.devRef .tc main_v6] (by decide) (by decide)]
  rfl

set_option backward.isDefEq.respectTransparency.types false in
/-- THE RUN. -/
theorem run_main : θ_run defs (onTc (τ := τ) (main (F := F))) ⟨m, fun _ => 0, ρ⟩
    (fun r => (∀ c : Dev nD, r.2.mem ((c : Thread nD τ).loc main_v6) = V₃ m c main_v6
        ∧ r.2.mem ((c : Thread nD τ).loc main_arg0) = V₃ m c main_arg0 ∧ r.2.mem ((c : Thread nD τ).loc main_arg1) = V₃ m c main_arg1
        ∧ r.2.mem ((c : Thread nD τ).loc main_arg2) = V₃ m c main_arg2 ∧ r.2.mem ((c : Thread nD τ).loc main_arg3) = V₃ m c main_arg3
        ∧ r.2.mem ((c : Thread nD τ).loc main_arg4) = V₃ m c main_arg4) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := by
      refine ⟨fun c => .rfl, fun c => seg1_pre m c, fun c => seg1_post m c, fun c => ?_⟩
      show iprop(StableHlo.held (c : Thread nD τ) bufs (V₃ m c) ∗ rode c)
        ⊢ iprop(Tₙ m c ∗ ∃ W, owes (c : Thread nD τ) (0 : CellTallies nD τ sig Unit) W)
      unfold rode
      iintro ⟨Hh, Hb, HO⟩
      isplitr [HO]
      · isplitl [Hh] <;> iassumption
      · iexact HO)
    (hinit := init m ρ)
    (QY := fun c s => (s.mem ((c : Thread nD τ).loc main_v6) = V₃ m c main_v6
        ∧ s.mem ((c : Thread nD τ).loc main_arg0) = V₃ m c main_arg0 ∧ s.mem ((c : Thread nD τ).loc main_arg1) = V₃ m c main_arg1
        ∧ s.mem ((c : Thread nD τ).loc main_arg2) = V₃ m c main_arg2 ∧ s.mem ((c : Thread nD τ).loc main_arg3) = V₃ m c main_arg3
        ∧ s.mem ((c : Thread nD τ).loc main_arg4) = V₃ m c main_arg4) ∧ s.sem (barC c) = 0)
    (hfin := fun c s' => by
      dsimp only [Tₙ]
      unfold leaves
      iintro ⟨⟨Hh, Hb⟩, HSI⟩
      ihave H := (Entails.of_eq (bufs_list c (V₃ m c))) $$ Hh
      icases H with ⟨H0, H1, H2, H3, H4, -, -, -, -, -, H6⟩
      icombine HSI H0 gives %h0
      icombine HSI H1 gives %h1
      icombine HSI H2 gives %h2
      icombine HSI H3 gives %h3
      icombine HSI H4 gives %h4
      icombine HSI H6 gives %h6
      icombine HSI Hb gives %hb
      imodintro
      isplitr
      · ipureintro
        exact ⟨⟨Buf.eq_of_forall_mem_univ h6, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => (h c).1,
      sem_eq_zero hs fun c sm hsm => by
        obtain rfl := unscoped_bar sm hsm
        exact (h c).2⟩)

/-! ## The final contents, of the initial ones -/

theorem V₃_keeps (c : Dev nD) (b : Ref sig .tc) (h6 : b ≠ main_v6) (h5 : b ≠ main_v5) (h : V₁ m c b = m ((c : Thread nD τ).loc b)) :
    V₃ m c b = m ((c : Thread nD τ).loc b) := by
  refine ((StableHlo.reshape_result_ne main_v5 main_v6 _ _ _ _ (V₂ m c) h6).trans ?_).trans h
  exact V₂_arg m c _ (StableHlo.devRef_ne_of_ne h5)
theorem V₃_arg0 (c : Dev nD) : V₃ m c main_arg0 = m ((c : Thread nD τ).loc main_arg0) := V₃_keeps m c _ (by decide) (by decide) (V_main_arg0 m c)
theorem V₃_arg1 (c : Dev nD) : V₃ m c main_arg1 = m ((c : Thread nD τ).loc main_arg1) := V₃_keeps m c _ (by decide) (by decide) (V_main_arg1 m c)
theorem V₃_arg2 (c : Dev nD) : V₃ m c main_arg2 = m ((c : Thread nD τ).loc main_arg2) := V₃_keeps m c _ (by decide) (by decide) (V_main_arg2 m c)
theorem V₃_arg3 (c : Dev nD) : V₃ m c main_arg3 = m ((c : Thread nD τ).loc main_arg3) := V₃_keeps m c _ (by decide) (by decide) (V_main_arg3 m c)
theorem V₃_arg4 (c : Dev nD) : V₃ m c main_arg4 = m ((c : Thread nD τ).loc main_arg4) := V₃_keeps m c _ (by decide) (by decide) (V_main_arg4 m c)

theorem V₃_v6 (c : Dev nD) : V₃ m c main_v6 = shapeCast S16x1x16x64 (result m c) shapeCasts_S16x1024_S16x1x16x64 := by
  have h : V₃ m c main_v6 = shapeCast S16x1x16x64 (V₂ m c main_v5) shapeCasts_S16x1024_S16x1x16x64 := by
    unfold V₃
    after_results
    rfl
  rw [h, V₂_v5]

/-- The operands the call finds, of the arguments. -/
theorem inB_eq (c : Dev nD) : inB m c = m ((c : Thread nD τ).loc main_arg3) := V_main_arg3 m c
theorem inQ_eq (c : Dev nD) : inQ m c = shapeCast S16x1024 (m ((c : Thread nD τ).loc main_arg0)) shapeCasts_S16x1x16x64_S16x1024 := by
  unfold inQ V₁
  after_results
  rfl
theorem inK_eq (c : Dev nD) : inK m c = shapeCast S2048x1024 (m ((c : Thread nD τ).loc main_arg1)) shapeCasts_S128x16x16x64_S2048x1024 := by
  unfold inK V₁
  after_results
  rfl
theorem inV_eq (c : Dev nD) : inV m c = shapeCast S2048x1024 (m ((c : Thread nD τ).loc main_arg2)) shapeCasts_S128x16x16x64_S2048x1024 := by
  unfold inV V₁
  after_results
  rfl
theorem inL_eq (c : Dev nD) : inL m c = shapeCast S16x1 (m ((c : Thread nD τ).loc main_arg4)) shapeCasts_S16_S16x1 := by
  unfold inL V₁
  after_results
  rfl

end Cert.Proof.KernelIdeal

end
-- ==== Proof.Softmax.lean ====
/-
# Softmax weights over the extended reals: two partial sums joined, and pages counted

Scores are real numbers; values are extended reals. A sum of values under weights that are real and not negative may be
scaled by a real factor that is not negative term by term. Hence a softmax does not depend on the shift that its
exponentials are taken with, whether it is computed at once (with the dead positions at minus infinity) or in two halves
that are joined afterwards; and a sum over the positions of a block table is the sum over the pages, each as often as the
table names it.
-/
module

public import Idealize.ShloMosaic.PureOps.Ideal.Laws
public import Idealize.ShloMosaic.Lib.IdealHost

@[expose] public section

noncomputable section

namespace Cert.Proof.Softmax

open scoped BigOperators
open Idealize.ShloMosaic

/-! ## Sums and real factors -/

/-- A sum of reals, as an extended real, is the sum of the terms as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- Adding an extended real to itself is scaling it. -/
theorem nsmul_eq (n : ℕ) (x : EReal) : n • x = x * ((n : ℝ) : EReal) := by
  induction n with
  | zero => simp
  | succ n ih =>
    rw [succ_nsmul, ih, Nat.cast_succ, EReal.coe_add, EReal.left_distrib_of_nonneg (EReal.coe_nonneg.mpr n.cast_nonneg) (EReal.coe_nonneg.mpr zero_le_one)]
    simp

/-- The quotient of two reals, the second not zero, is the real quotient. -/
theorem div_coe (x : ℝ) {y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- The exponential of a difference of reals. -/
theorem exp_sub_coe (x y : ℝ) : Ideal.exp ((x : EReal) - (y : EReal)) = ((Real.exp (x - y) : ℝ) : EReal) := by
  rw [← EReal.coe_sub]; rfl

/-- Below minus infinity there is no weight. -/
theorem exp_bot_sub (y : ℝ) : Ideal.exp ((⊥ : EReal) - (y : EReal)) = 0 := by
  rw [EReal.bot_sub]; rfl

/-! ## Two halves joined -/

section
variable {ι : Type*} [Fintype ι] (σ τ : ι → ℝ) (n k : ι → ℕ) (u v : ι → EReal) (a b μ : ℝ)

/-- The normalizer: every key's exponential, as often as the key is named. -/
def total : ℝ := ∑ i, Real.exp (σ i) * n i + ∑ i, Real.exp (τ i) * k i

/-- One half's partial sum under its own shift, scaled to the common one. -/
theorem half_scaled : (∑ i, ((Real.exp (σ i - a) * n i : ℝ) : EReal) * u i) * ((Real.exp (a - μ) : ℝ) : EReal)
    = ∑ i, u i * ((Real.exp (σ i - μ) * n i : ℝ) : EReal) := by
  rw [sum_mul_coe _ _ (Real.exp_pos _).le]
  refine Finset.sum_congr rfl fun i _ => ?_
  rw [mul_comm _ (u i), mul_assoc, ← EReal.coe_mul]
  congr 2
  rw [show σ i - μ = (σ i - a) + (a - μ) by ring, Real.exp_add]; ring

/-- One half's row sum under its own shift, scaled to the common one. -/
theorem half_total : (∑ i, ((Real.exp (σ i - a) * n i : ℝ) : EReal)) * ((Real.exp (a - μ) : ℝ) : EReal)
    = ((Real.exp (-μ) * ∑ i, Real.exp (σ i) * n i : ℝ) : EReal) := by
  rw [← coe_sum, ← EReal.coe_mul, Finset.sum_mul, Finset.mul_sum]
  congr 1
  refine Finset.sum_congr rfl fun i _ => ?_
  rw [show Real.exp (σ i - a) = Real.exp (σ i) * Real.exp (-a) by rw [← Real.exp_add]; rfl,
    show Real.exp (a - μ) = Real.exp a * Real.exp (-μ) by rw [← Real.exp_add]; rfl]
  have : Real.exp (-a) * Real.exp a = 1 := by rw [← Real.exp_add]; simp
  linear_combination (Real.exp (σ i) * n i * Real.exp (-μ)) * this

/-- The two halves joined and divided: each value under its softmax weight, as often as its key is named. -/
theorem joined (hpos : 0 < total σ τ n k) :
    ((∑ i, ((Real.exp (σ i - a) * n i : ℝ) : EReal) * u i) * ((Real.exp (a - μ) : ℝ) : EReal)
      + (∑ i, ((Real.exp (τ i - b) * k i : ℝ) : EReal) * v i) * ((Real.exp (b - μ) : ℝ) : EReal))
      * Ideal.div 1 ((∑ i, ((Real.exp (σ i - a) * n i : ℝ) : EReal)) * ((Real.exp (a - μ) : ℝ) : EReal)
          + (∑ i, ((Real.exp (τ i - b) * k i : ℝ) : EReal)) * ((Real.exp (b - μ) : ℝ) : EReal))
      = (∑ i, n i • (u i * ((Real.exp (σ i) / total σ τ n k : ℝ) : EReal)))
        + ∑ i, k i • (v i * ((Real.exp (τ i) / total σ τ n k : ℝ) : EReal)) := by
  have hμ : 0 < Real.exp (-μ) := Real.exp_pos _
  have hne : Real.exp (-μ) * total σ τ n k ≠ 0 := (mul_pos hμ hpos).ne'
  rw [half_scaled, half_scaled, half_total, half_total, ← EReal.coe_add, ← mul_add]
  change _ * Ideal.div ((1 : ℝ) : EReal) ((Real.exp (-μ) * total σ τ n k : ℝ) : EReal) = _
  rw [div_coe _ hne, EReal.right_distrib_of_nonneg_of_ne_top (EReal.coe_nonneg.mpr (one_div_pos.mpr (mul_pos hμ hpos)).le) (EReal.coe_ne_top _),
    sum_mul_coe _ _ (one_div_pos.mpr (mul_pos hμ hpos)).le, sum_mul_coe _ _ (one_div_pos.mpr (mul_pos hμ hpos)).le]
  have key : ∀ (s : ℝ) (c : ℕ) (x : EReal),
      x * ((Real.exp (s - μ) * c : ℝ) : EReal) * ((1 / (Real.exp (-μ) * total σ τ n k) : ℝ) : EReal)
        = c • (x * ((Real.exp s / total σ τ n k : ℝ) : EReal)) := fun s c x => by
    rw [nsmul_eq, mul_assoc, mul_assoc, ← EReal.coe_mul, ← EReal.coe_mul]
    congr 2
    rw [sub_eq_add_neg, Real.exp_add]
    have h1 := hμ.ne'
    have h2 := hpos.ne'
    field_simp
  exact congrArg₂ (· + ·) (Finset.sum_congr rfl fun i _ => key _ _ _) (Finset.sum_congr rfl fun i _ => key _ _ _)

end

/-! ## The softmax at once, the dead positions at minus infinity -/

section
variable {κ : Type*} [Fintype κ] (p : κ → Prop) [DecidablePred p] (σ : κ → ℝ) (v : κ → EReal) (M : ℝ)

/-- The exponential under a shift of a score that is minus infinity at a dead position. -/
theorem exp_masked (i : κ) : Ideal.exp ((if p i then (σ i : EReal) else ⊥) - (M : EReal))
    = (((if p i then Real.exp (σ i) else 0) * Real.exp (-M) : ℝ) : EReal) := by
  by_cases h : p i
  · rw [if_pos h, if_pos h, exp_sub_coe, sub_eq_add_neg, Real.exp_add]
  · rw [if_neg h, if_neg h, exp_bot_sub]; simp

/-- The weighted sum of the values: each live one under its softmax weight. -/
theorem at_once (hpos : 0 < ∑ i, if p i then Real.exp (σ i) else 0) :
    (∑ i, v i * Ideal.div (Ideal.exp ((if p i then (σ i : EReal) else ⊥) - (M : EReal)))
        (0 + ∑ j, Ideal.exp ((if p j then (σ j : EReal) else ⊥) - (M : EReal))))
      = ∑ i, if p i then v i * ((Real.exp (σ i) / ∑ j, (if p j then Real.exp (σ j) else 0) : ℝ) : EReal) else 0 := by
  have hM : 0 < Real.exp (-M) := Real.exp_pos _
  simp only [exp_masked, zero_add, ← coe_sum, ← Finset.sum_mul]
  refine Finset.sum_congr rfl fun i _ => ?_
  rw [div_coe _ (mul_pos hpos hM).ne', mul_div_mul_right _ _ hM.ne']
  by_cases h : p i
  · rw [if_pos h, if_pos h]
  · rw [if_neg h, if_neg h]; simp

end

/-! ## Positions grouped by page -/

/-- The page and the place in it of a key. -/
def pg (i : Fin 2048) : Fin 128 := ⟨i.val / 16, by omega⟩
def off (i : Fin 2048) : Fin 16 := ⟨i.val % 16, Nat.mod_lt _ (by decide)⟩
/-- Half `x`'s page `p` among all the pages. -/
def page (x : Fin 2) (p : Fin 128) : Fin 256 := ⟨128 * x.val + p.val, by omega⟩

/-- A sum over the keys is the sum over the pages and the places in them. -/
theorem sum_keys {M : Type*} [AddCommMonoid M] (g : Fin 128 → Fin 16 → M) : ∑ i : Fin 2048, g (pg i) (off i) = ∑ p, ∑ o, g p o := by
  rw [← Fintype.sum_prod_type']
  refine Fintype.sum_equiv (finProdFinEquiv (m := 128) (n := 16)).symm _ _ fun i => ?_
  rfl

/-- How often live positions name half `x`'s page `p`. -/
def named (live : Fin 128 → Prop) [DecidablePred live] (t : Fin 128 → Fin 256) (x : Fin 2) (p : Fin 128) : ℕ :=
  (Finset.univ.filter fun j => live j ∧ t j = page x p).card

/-- A sum over the live positions' keys is the sum over both halves' keys, each as often as its page is named. -/
theorem regroup {M : Type*} [AddCommMonoid M] (live : Fin 128 → Prop) [DecidablePred live] (t : Fin 128 → Fin 256)
    (f : Fin 256 → Fin 16 → M) :
    (∑ i : Fin 2048, if live (pg i) then f (t (pg i)) (off i) else 0)
      = (∑ i : Fin 2048, named live t 0 (pg i) • f (page 0 (pg i)) (off i))
        + ∑ i : Fin 2048, named live t 1 (pg i) • f (page 1 (pg i)) (off i) := by
  rw [sum_keys (M := M) (fun p o => if live p then f (t p) o else 0), sum_keys (M := M) (fun p o => named live t 0 p • f (page 0 p) o),
    sum_keys (M := M) (fun p o => named live t 1 p • f (page 1 p) o)]
  have hin : ∀ g : Fin 256, (∑ j : Fin 128, ∑ o, if live j ∧ t j = g then f g o else 0)
      = ∑ o, (Finset.univ.filter fun j => live j ∧ t j = g).card • f g o := fun g => by
    rw [Finset.sum_comm]
    refine Finset.sum_congr rfl fun o _ => ?_
    rw [← Finset.sum_filter, Finset.sum_const]
  have hall : (∑ p : Fin 128, ∑ o, if live p then f (t p) o else 0)
      = ∑ g : Fin 256, ∑ j : Fin 128, ∑ o, if live j ∧ t j = g then f g o else 0 := by
    refine (Finset.sum_congr rfl fun j _ => ?_).trans Finset.sum_comm
    rw [Finset.sum_eq_single (t j)]
    · refine Finset.sum_congr rfl fun o _ => ?_
      by_cases h : live j
      · rw [if_pos h, if_pos ⟨h, rfl⟩]
      · rw [if_neg h, if_neg fun e => h e.1]
    · intro g _ hg
      exact Finset.sum_eq_zero fun o _ => if_neg fun e => hg e.2.symm
    · intro h; exact absurd (Finset.mem_univ _) h
  rw [hall]
  refine (Finset.sum_congr rfl fun g _ => hin g).trans ?_
  exact (Fin.sum_univ_add (a := 128) (b := 128) fun g : Fin (128 + 128) => ∑ o, (Finset.univ.filter fun j => live j ∧ t j = g).card • f g o).trans
    (congrArg₂ (· + ·)
      (Finset.sum_congr rfl fun p _ => by
        rw [show (Fin.castAdd 128 p : Fin (128 + 128)) = page 0 p from Fin.ext (by show p.val = 128 * 0 + p.val; omega)]; rfl)
      (Finset.sum_congr rfl fun p _ => by
        rw [show (Fin.natAdd 128 p : Fin (128 + 128)) = page 1 p from Fin.ext (by show 128 + p.val = 128 * 1 + p.val; omega)]; rfl))

end Cert.Proof.Softmax

end
-- ==== Proof.Count.lean ====
/-
# How often a device's keys are named

The first products of the kernel's body: the matrix that counts, for each query and each of the device's pages, the live
positions of the block table that name the page, spread over the pages' keys.
-/
module

public import proofs.«01_k».proof.Proof.Body
public import proofs.«01_k».proof.Proof.Softmax
public import Idealize.ShloMosaic.Lib.Pointwise
public import Idealize.ShloMosaic.Lib.IdealHost
public import Idealize.ShloMosaic.Lib.Affine

@[expose] public section

set_option maxRecDepth 16384

noncomputable section

namespace Cert.Proof.KernelIdeal

open Cert.KernelIdeal Cert.KernelIdeal.Gen
open Idealize.ShloMosaic
open Idealize.ShloMosaic.TcCoe

/-! ## Words -/

/-- Which half of the pages a device holds. -/
def half (c : Dev nD) : Fin 2 := ⟨c.val / 8, by have : c.val < 16 := c.isLt; omega⟩
/-- Position `j` of a block table is live for a query of `n` pages. -/
def Live (n : BitVec 32) (j : Fin 128) : Prop := IntOp.cmpi .slt (BitVec.ofNat 32 j.val) n = 1#1
instance (n : BitVec 32) : DecidablePred (Live n) := fun j => inferInstanceAs (Decidable (_ = _))
/-- The page that an entry of the block table names. -/
def entry (w : BitVec 32) : Fin 256 := ⟨w.toNat % 256, Nat.mod_lt _ (by decide)⟩

/-- A page's word on a device is its number among all the pages. -/
theorem page_word (c : Dev nD) (p : Fin 128) :
    IntOp.addi (BitVec.ofNat 32 p.val) (Scalar.muli (Scalar.remsi (Scalar.divsi (Dev.word c) 8#32) 2#32) 128#32)
      = BitVec.ofNat 32 (Softmax.page (half c) p).val := by
  revert c p; decide +kernel

/-- The kernel's quotient of a key by sixteen, rounded down, is its page. -/
theorem floor_word (k : Fin 2048) :
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 k.val) 16#32) 0#32))
      (IntOp.subi (IntOp.divsi ArithUnit.vector (BitVec.ofNat 32 k.val) 16#32) 1#32)
      (IntOp.divsi ArithUnit.vector (BitVec.ofNat 32 k.val) 16#32)
      = BitVec.ofNat 32 (Softmax.pg k).val := by
  revert k; decide +kernel

/-- Two words of small numbers compare equal just when the numbers are. -/
theorem cmpi_eq_small (x : BitVec 32) (n : ℕ) (hn : n < 2 ^ 32) : IntOp.cmpi .eq x (BitVec.ofNat 32 n) = 1#1 ↔ x.toNat = n := by
  rw [IntOp.cmpi_eq]
  refine ⟨fun e => ?_, fun e => BitVec.eq_of_toNat_eq ?_⟩
  · rw [e, BitVec.toNat_ofNat]; exact Nat.mod_eq_of_lt hn
  · rw [BitVec.toNat_ofNat, e]; exact (Nat.mod_eq_of_lt hn).symm

/-- A truth value as a float. -/
theorem indicator (x : BitVec 1) : (FloatOps.sitofp FTy.f32 (BitVec.setWidth 32 x) : Ideal .f32) = (((if x = 1#1 then 1 else 0 : ℝ)) : EReal) := by
  have h : x = 0#1 ∨ x = 1#1 := by revert x; decide
  rcases h with rfl | rfl
  · show (((BitVec.setWidth 32 0#1).toInt : ℝ) : EReal) = _; simp
  · show (((BitVec.setWidth 32 1#1).toInt : ℝ) : EReal) = _; simp

/-! ## The counts -/

/-- The count of a device's page: how often the query's live positions name it. -/
theorem pay2_apply (c : Dev nD) (bt : Vec Ideal S16x128 .i32) (ln : Vec Ideal S16x1 .i32) (b : Fin 16) (p : Fin 128)
    (hb : ∀ j, Live (ln (ix2 b 0)) j → (bt (ix2 b j)).toNat < 256) :
    k0_pay2 c bt ln (ix2 b p)
      = ((Softmax.named (Live (ln (ix2 b 0))) (fun j => entry (bt (ix2 b j))) (half c) p : ℝ) : EReal) := by
  pointwise [k0_pay2]
  simp only [page_word, indicator, IntOp.andi_eq_one, ← Softmax.coe_sum, Finset.sum_boole]
  refine congrArg (fun s : Finset (Fin 128) => ((s.card : ℝ) : EReal)) (Finset.filter_congr fun j _ => ?_)
  rw [cmpi_eq_small _ _ (lt_trans (Softmax.page (half c) p).isLt (by decide)), and_comm]
  refine and_congr_right fun hl => ?_
  have hlt := hb j hl
  unfold entry
  rw [Fin.ext_iff]
  show _ ↔ (bt (ix2 b j)).toNat % 256 = _
  rw [Nat.mod_eq_of_lt hlt]

/-- Spread over the keys: a key has its page's count. -/
theorem pay5_apply (w : FVec Ideal S16x128 .f32) (b : Fin 16) (k : Fin 2048) :
    k0_pay5 w (iota .tc S128x2048 32 [1] iota_S128x2048_d1_w32) 16#32 k0_pay3 k0_pay4 (Scalar.extui (Scalar.cmpi .sgt 16#32 0#32)) 0#32 (ix2 b k)
      = w (ix2 b (Softmax.pg k)) := by
  pointwise [k0_pay5, k0_pay3, k0_pay4]
  simp only [floor_word, indicator]
  rw [Finset.sum_eq_single (Softmax.pg k)]
  · rw [if_pos ((cmpi_eq_small _ _ (lt_trans (Softmax.pg k).isLt (by decide))).2 (by rw [BitVec.toNat_ofNat]; exact Nat.mod_eq_of_lt (lt_trans (Softmax.pg k).isLt (by decide))))]
    simp
  · intro x _ hx
    rw [if_neg]
    · simp
    · rw [cmpi_eq_small _ _ (lt_trans x.isLt (by decide)), BitVec.toNat_ofNat, Nat.mod_eq_of_lt (lt_trans (Softmax.pg k).isLt (by decide))]
      exact fun e => hx (Fin.ext e.symm)
  · intro h; exact absurd (Finset.mem_univ _) h

/-- A device's weights. -/
theorem wAt_apply (c : Dev nD) (bt : Vec Ideal S16x128 .i32) (ln : Vec Ideal S16x1 .i32) (b : Fin 16) (k : Fin 2048)
    (hb : ∀ j, Live (ln (ix2 b 0)) j → (bt (ix2 b j)).toNat < 256) :
    wAt (F := Ideal) c bt ln (ix2 b k)
      = ((Softmax.named (Live (ln (ix2 b 0))) (fun j => entry (bt (ix2 b j))) (half c) (Softmax.pg k) : ℝ) : EReal) := by
  unfold wAt
  rw [pay5_apply]
  exact pay2_apply c bt ln b _ hb

end Cert.Proof.KernelIdeal

end
-- ==== Proof.Values.lean ====
/-
# What one device's heads are, over the extended reals

The values of the kernel's body read at an index: the scores are sums of products, the row maxima, the row sums and the
weighted sums of the values are what their names say, and the result joins the device's own and the far sums.
-/
module

public import proofs.«01_k».proof.Proof.Count

@[expose] public section

set_option maxRecDepth 16384

noncomputable section

namespace Cert.Proof.KernelIdeal

open Cert.KernelIdeal Cert.KernelIdeal.Gen
open Idealize.ShloMosaic
open Idealize.ShloMosaic.TcCoe

/-- Lane `d` of head `h` among all the lanes. -/
def lane (h : Fin 16) (d : Fin 64) : Fin 1024 := ⟨64 * h.val + d.val, by omega⟩

/-- The pattern that a maximum starts from is minus infinity. -/
theorem bits_bot : Ideal.ofBits .f32 0xFF800000#32 = ⊥ := by simp [Ideal.ofBits, Ideal.ieee]

section
variable (w : FVec Ideal S16x2048 .f32) (q : FVec Ideal S16x1024 .bf16) (k v : FVec Ideal S2048x1024 .bf16)

theorem hS_apply (h b : Fin 16) (i : Fin 2048) :
    hS q k h (ix2 b i) = ∑ d : Fin 64, q (ix2 b (lane h d)) * k (ix2 i (lane h d)) := by
  pointwise [hS]
  rfl

theorem hM_apply (h b : Fin 16) :
    hM q k h (ix2 b 0) = (Finset.univ : Finset (Fin 2048)).fold max ⊥ fun i => hS q k h (ix2 b i) := by
  pointwise [hM]
  exact congrArg (fun z : EReal => (Finset.univ : Finset (Fin 2048)).fold max z fun i => hS q k h (ix2 b i)) bits_bot

theorem hP_apply (h b : Fin 16) (i : Fin 2048) :
    hP w q k h (ix2 b i) = Ideal.exp (hS q k h (ix2 b i) - hM q k h (ix2 b 0)) * w (ix2 b i) := by
  pointwise [hP]

theorem hL_apply (h b : Fin 16) : hL w q k h (ix2 b 0) = ∑ i : Fin 2048, hP w q k h (ix2 b i) := by
  pointwise [hL]

theorem hAcc_apply (h b : Fin 16) (d : Fin 64) :
    hAcc w q k v h (ix2 b d) = ∑ i : Fin 2048, hP w q k h (ix2 b i) * v (ix2 i (lane h d)) := by
  pointwise [hAcc]
  rfl

theorem allM_apply (b h : Fin 16) : allM q k (ix2 b h) = hM q k h (ix2 b 0) := by
  show concatenate S16x16 1 (List.ofFn fun n : Fin 16 => ⟨S16x1, hM q k n⟩) _ (ix2 b h) = _
  refine (concatenate_ofFn_unit_apply (t := S16x16) (s₁ := S16x1) 1 (fun n : Fin 16 => hM q k n) _ rfl rfl (ix2 b h) h rfl (ix2 b 0) fun a ha => ?_)
  fin_cases a
  · rfl
  · exact absurd rfl ha

theorem allL_apply (b h : Fin 16) : allL w q k (ix2 b h) = hL w q k h (ix2 b 0) := by
  show concatenate S16x16 1 (List.ofFn fun n : Fin 16 => ⟨S16x1, hL w q k n⟩) _ (ix2 b h) = _
  refine (concatenate_ofFn_unit_apply (t := S16x16) (s₁ := S16x1) 1 (fun n : Fin 16 => hL w q k n) _ rfl rfl (ix2 b h) h rfl (ix2 b 0) fun a ha => ?_)
  fin_cases a
  · rfl
  · exact absurd rfl ha

theorem hPay_apply (h b : Fin 16) (d : Fin 64) : hPay w q k v h (ix4 0 0 b d) = hAcc w q k v h (ix2 b d) := by
  pointwise [hPay]
theorem payM_apply (b h : Fin 16) : payM q k (ix4 0 0 b h) = hM q k h (ix2 b 0) := by
  pointwise [payM]
  exact allM_apply q k b h
theorem payL_apply (b h : Fin 16) : payL w q k (ix4 0 0 b h) = hL w q k h (ix2 b 0) := by
  pointwise [payL]
  exact allL_apply w q k b h

theorem accFull_apply (s : Fin 2) (h b : Fin 16) (d : Fin 64) : accFull w q k v (ix4 s h b d) = hAcc w q k v h (ix2 b d) := by
  refine Eq.trans ?_ (hPay_apply w q k v h b d)
  unfold accFull
  refine congrArg (hPay w q k v h) (funext fun a => ?_)
  fin_cases a <;> rfl
theorem statFull_max (s : Fin 2) (h b : Fin 16) : statFull w q k (ix4 s 0 b h) = hM q k h (ix2 b 0) := by
  refine Eq.trans ?_ (payM_apply q k b h)
  unfold statFull
  refine congrArg (payM q k) (funext fun a => ?_)
  fin_cases a <;> rfl
theorem statFull_sum (s : Fin 2) (h b : Fin 16) : statFull w q k (ix4 s 1 b h) = hL w q k h (ix2 b 0) := by
  refine Eq.trans ?_ (payL_apply w q k b h)
  unfold statFull
  refine congrArg (payL w q k) (funext fun a => ?_)
  fin_cases a <;> rfl

end

theorem ldA_apply (g : CA (F := Ideal)) (s : Fin 2) (h b : Fin 16) (d : Fin 64) : ldA g s h (ix4 0 0 b d) = g (ix4 s h b d) := by
  refine congrArg g (funext fun a => Fin.ext ?_)
  fin_cases a
  · show s.val + 1 * 0 = s.val; omega
  · show h.val + 1 * 0 = h.val; omega
  · show 0 + 1 * b.val = b.val; omega
  · show 0 + 1 * d.val = d.val; omega

theorem ldT_apply (g : CT (F := Ideal)) (s j : Fin 2) (b h : Fin 16)
    (inb : ∀ a, (![s.val, j.val, 0, 0] : Fin 4 → ℕ) a + S1x1x16x16.size a ≤ S2x2x16x16.size a) :
    ldT g s.val j.val inb (ix4 0 0 b h) = g (ix4 s j b h) := by
  refine congrArg g (funext fun a => Fin.ext ?_)
  fin_cases a
  · show s.val + 1 * 0 = s.val; omega
  · show j.val + 1 * 0 = j.val; omega
  · show 0 + 1 * b.val = b.val; omega
  · show 0 + 1 * h.val = h.val; omega

theorem mOwn_apply (g : CT (F := Ideal)) (b h : Fin 16) : mOwn g (ix2 b h) = g (ix4 0 0 b h) := by
  refine Eq.trans ?_ (ldT_apply g 0 0 b h inb_S2x2x16x16_S1x1x16x16_0_0_0_0)
  generalize ht : ldT g 0 0 inb_S2x2x16x16_S1x1x16x16_0_0_0_0 = x
  pointwise [mOwn, k0_pay96]
theorem lOwn_apply (g : CT (F := Ideal)) (b h : Fin 16) : lOwn g (ix2 b h) = g (ix4 0 1 b h) := by
  refine Eq.trans ?_ (ldT_apply g 0 1 b h inb_S2x2x16x16_S1x1x16x16_0_1_0_0)
  generalize ht : ldT g 0 1 inb_S2x2x16x16_S1x1x16x16_0_1_0_0 = x
  pointwise [lOwn, k0_pay97]
theorem mFar_apply (g : CT (F := Ideal)) (b h : Fin 16) : mFar g (ix2 b h) = g (ix4 1 0 b h) := by
  refine Eq.trans ?_ (ldT_apply g 1 0 b h inb_S2x2x16x16_S1x1x16x16_1_0_0_0)
  generalize ht : ldT g 1 0 inb_S2x2x16x16_S1x1x16x16_1_0_0_0 = x
  pointwise [mFar, k0_pay98]
theorem lFar_apply (g : CT (F := Ideal)) (b h : Fin 16) : lFar g (ix2 b h) = g (ix4 1 1 b h) := by
  refine Eq.trans ?_ (ldT_apply g 1 1 b h inb_S2x2x16x16_S1x1x16x16_1_1_0_0)
  generalize ht : ldT g 1 1 inb_S2x2x16x16_S1x1x16x16_1_1_0_0 = x
  pointwise [lFar, k0_pay99]

theorem outFull_apply (fa fb inv : FVec Ideal S16x16 .f32) (g : FVec Ideal S2x16x16x64 .f32) (b h : Fin 16) (d : Fin 64) :
    outFull fa fb inv g (ix2 b (lane h d))
      = ((g (ix4 0 h b d) : Ideal .f32) * fa (ix2 b h) + (g (ix4 1 h b d) : Ideal .f32) * fb (ix2 b h)) * inv (ix2 b h) := by
  have e : outFull fa fb inv g (ix2 b (lane h d)) = oHead fa fb inv g h (ix2 b d) := by
    have e1 : (lane h d).val / 64 = h.val := by show (64 * h.val + d.val) / 64 = h.val; omega
    have e2 : (lane h d).val % 64 = d.val := by show (64 * h.val + d.val) % 64 = d.val; omega
    unfold outFull
    have eh : (⟨((ix2 b (lane h d) : S16x1024.Idx) 1).val / 64, by have := (lane h d).isLt; show (lane h d).val / 64 < 16; omega⟩ : Fin 16) = h := Fin.ext e1
    rw [eh]
    refine congrArg (oHead fa fb inv g h) (funext fun a => Fin.ext ?_)
    fin_cases a
    · rfl
    · exact e2
  rw [e]
  pointwise [oHead]
  rw [ldA_apply, ldA_apply]

end Cert.Proof.KernelIdeal

end
-- ==== Proof.Result.lean ====
/-
# The kernel's result, over the extended reals

For real queries and keys the scores and their maxima are real, and a device's result at a lane of a head is the sum, over
its own keys and over the far ones, of the values under their softmax weights, each as often as its page is named.
-/
module

public import proofs.«01_k».proof.Proof.Values

@[expose] public section

set_option maxRecDepth 16384

noncomputable section

namespace Cert.Proof.KernelIdeal

open Cert.KernelIdeal Cert.KernelIdeal.Gen
open Idealize.ShloMosaic
open Idealize.ShloMosaic.TcCoe

/-! ## Constants and maxima -/

/-- One eighth, in either format. -/
theorem eighth_half : Ideal.ofBits .bf16 0x3E00#16 = ((1 / 8 : ℝ) : EReal) := by
  have e : ((128 : ℝ) : EReal) * (((2 ^ 10)⁻¹ : ℝ) : EReal) = ((8⁻¹ : ℝ) : EReal) := by
    rw [← EReal.coe_mul]; congr 1; ring
  simp [Ideal.ofBits, Ideal.ieee]
  exact e
theorem eighth_full : Ideal.ofBits .f32 0x3E000000#32 = ((1 / 8 : ℝ) : EReal) := by
  have e : ((8388608 : ℝ) : EReal) * (((2 ^ 26)⁻¹ : ℝ) : EReal) = ((8⁻¹ : ℝ) : EReal) := by
    rw [← EReal.coe_mul]; congr 1; ring
  simp [Ideal.ofBits, Ideal.ieee]
  exact e

/-- A maximum of scores none of which is plus infinity and one of which is real is real. -/
theorem fold_real {ι : Type*} [Fintype ι] (f : ι → EReal) (htop : ∀ i, f i ≠ ⊤) (i₀ : ι) (hbot : f i₀ ≠ ⊥) :
    ∃ M : ℝ, (Finset.univ : Finset ι).fold max ⊥ f = (M : EReal) := by
  have h1 : (Finset.univ : Finset ι).fold max ⊥ f ≠ ⊤ :=
    ne_of_lt ((Finset.fold_max_lt _).2 ⟨bot_lt_top, fun i _ => lt_top_iff_ne_top.2 (htop i)⟩)
  have h2 : (Finset.univ : Finset ι).fold max ⊥ f ≠ ⊥ :=
    ne_of_gt ((Finset.lt_fold_max _).2 (.inr ⟨i₀, Finset.mem_univ _, bot_lt_iff_ne_bot.2 hbot⟩))
  exact ⟨_, (EReal.coe_toReal h1 h2).symm⟩

/-! ## One device -/

/-- A scaled score. -/
def score (x y : Fin 64 → ℝ) : ℝ := (∑ d, x d * y d) * (1 / 8)

section
variable (q : FVec Ideal S16x1024 .bf16) (k v : FVec Ideal S2048x1024 .bf16) (qr : Fin 16 → Fin 1024 → ℝ) (kr : Fin 2048 → Fin 1024 → ℝ)
  (hq : ∀ b l, q (ix2 b l) = ((qr b l : ℝ) : EReal)) (hk : ∀ i l, k (ix2 i l) = ((kr i l : ℝ) : EReal))

/-- The score of a query's head against a key. -/
def scoreOf (b h : Fin 16) (i : Fin 2048) : ℝ := score (fun d => qr b (lane h d)) fun d => kr i (lane h d)

include hq hk in
theorem hS_real (h b : Fin 16) (i : Fin 2048) : hS (F := Ideal) (k0_pay6 q) (k0_pay7 k) h (ix2 b i) = ((scoreOf qr kr b h i : ℝ) : EReal) := by
  have e6 : ∀ l, k0_pay6 (F := Ideal) q (ix2 b l) = ((qr b l * (1 / 8) : ℝ) : EReal) := fun l => by
    have : k0_pay6 (F := Ideal) q (ix2 b l) = q (ix2 b l) * Ideal.ofBits .bf16 0x3E00#16 := by pointwise [k0_pay6]
    rw [this, eighth_half, hq, ← EReal.coe_mul]
  have e7 : ∀ l, k0_pay7 (F := Ideal) k (ix2 i l) = k (ix2 i l) := fun l => by pointwise [k0_pay7]
  rw [hS_apply]
  simp only [e6, e7, hk, ← EReal.coe_mul, ← Softmax.coe_sum]
  congr 1
  unfold scoreOf score
  rw [Finset.sum_mul]
  exact Finset.sum_congr rfl fun d _ => by ring

include hq hk in
theorem hM_real (h b : Fin 16) : ∃ M : ℝ, hM (F := Ideal) (k0_pay6 q) (k0_pay7 k) h (ix2 b 0) = (M : EReal) := by
  rw [hM_apply]
  refine fold_real _ (fun i => ?_) 0 ?_
  · rw [hS_real q k qr kr hq hk]; exact EReal.coe_ne_top _
  · rw [hS_real q k qr kr hq hk]; exact EReal.coe_ne_bot _

variable (w : FVec Ideal S16x2048 .f32) (n : Fin 16 → Fin 2048 → ℕ) (hw : ∀ b i, w (ix2 b i) = (((n b i : ℕ) : ℝ) : EReal))

include hq hk hw in
theorem hP_real (h b : Fin 16) (i : Fin 2048) (M : ℝ) (hM' : hM (F := Ideal) (k0_pay6 q) (k0_pay7 k) h (ix2 b 0) = (M : EReal)) :
    hP (F := Ideal) w (k0_pay6 q) (k0_pay7 k) h (ix2 b i) = ((Real.exp (scoreOf qr kr b h i - M) * n b i : ℝ) : EReal) := by
  rw [hP_apply, hS_real q k qr kr hq hk, hM', hw, Softmax.exp_sub_coe, ← EReal.coe_mul]

include hq hk hw in
theorem hL_real (h b : Fin 16) (M : ℝ) (hM' : hM (F := Ideal) (k0_pay6 q) (k0_pay7 k) h (ix2 b 0) = (M : EReal)) :
    hL (F := Ideal) w (k0_pay6 q) (k0_pay7 k) h (ix2 b 0) = ∑ i, ((Real.exp (scoreOf qr kr b h i - M) * n b i : ℝ) : EReal) := by
  rw [hL_apply]
  exact Finset.sum_congr rfl fun i _ => hP_real q k qr kr hq hk w n hw h b i M hM'

include hq hk hw in
theorem hAcc_real (h b : Fin 16) (d : Fin 64) (M : ℝ) (hM' : hM (F := Ideal) (k0_pay6 q) (k0_pay7 k) h (ix2 b 0) = (M : EReal)) :
    hAcc (F := Ideal) w (k0_pay6 q) (k0_pay7 k) (k0_pay8 v) h (ix2 b d)
      = ∑ i, ((Real.exp (scoreOf qr kr b h i - M) * n b i : ℝ) : EReal) * v (ix2 i (lane h d)) := by
  have e8 : ∀ i l, k0_pay8 (F := Ideal) v (ix2 i l) = v (ix2 i l) := fun i l => by pointwise [k0_pay8]
  rw [hAcc_apply]
  refine Finset.sum_congr rfl fun i _ => ?_
  rw [hP_real q k qr kr hq hk w n hw h b i M hM', e8]

end

/-! ## The combination -/

theorem combined_apply (g : FVec Ideal S2x16x16x64 .f32) (t : FVec Ideal S2x2x16x16 .f32) (b h : Fin 16) (d : Fin 64) (m m' : EReal) (l l' : EReal)
    (hm : t (ix4 0 0 b h) = m) (hm' : t (ix4 1 0 b h) = m') (hl : t (ix4 0 1 b h) = l) (hl' : t (ix4 1 1 b h) = l') :
    combined (F := Ideal) g t (ix2 b (lane h d))
      = ((g (ix4 0 h b d) : EReal) * Ideal.exp (m - max m m') + (g (ix4 1 h b d) : EReal) * Ideal.exp (m' - max m m'))
        * Ideal.div 1 (l * Ideal.exp (m - max m m') + l' * Ideal.exp (m' - max m m')) := by
  subst hm hm' hl hl'
  unfold combined
  rw [outFull_apply]
  rw [← mOwn_apply t, ← mFar_apply t, ← lOwn_apply t, ← lFar_apply t]
  generalize mOwn (F := Ideal) t = x
  generalize mFar (F := Ideal) t = y
  generalize lOwn (F := Ideal) t = z
  generalize lFar (F := Ideal) t = u
  have e101 : k0_pay101 x y (ix2 b h) = Ideal.exp (x (ix2 b h) - max (x (ix2 b h)) (y (ix2 b h))) := by pointwise [k0_pay101, k0_pay100]
  have e102 : k0_pay102 x y (ix2 b h) = Ideal.exp (y (ix2 b h) - max (x (ix2 b h)) (y (ix2 b h))) := by pointwise [k0_pay102, k0_pay100]
  have e103 : k0_pay103 x z y u (ix2 b h) = Ideal.div 1 (z (ix2 b h) * k0_pay101 x y (ix2 b h) + u (ix2 b h) * k0_pay102 x y (ix2 b h)) := by
    pointwise [k0_pay103]
  rw [e103, e101, e102]

/-- The count of each of a device's keys. -/
def count (bt : Vec Ideal S16x128 .i32) (ln : Vec Ideal S16x1 .i32) (x : Fin 2) (b : Fin 16) (i : Fin 2048) : ℕ :=
  Softmax.named (Live (ln (ix2 b 0))) (fun j => entry (bt (ix2 b j))) x (Softmax.pg i)

/-- What a device leaves at a lane of a head. -/
theorem out_real (Q : Dev nD → Vec Ideal S16x1024 .bf16) (K V : Dev nD → Vec Ideal S2048x1024 .bf16) (B : Dev nD → Vec Ideal S16x128 .i32)
    (L : Dev nD → Vec Ideal S16x1 .i32) (bt : Vec Ideal S16x128 .i32) (ln : Vec Ideal S16x1 .i32) (hB : ∀ c, B c = bt) (hL : ∀ c, L c = ln)
    (qr : Fin 16 → Fin 1024 → ℝ) (kr : Dev nD → Fin 2048 → Fin 1024 → ℝ)
    (hq : ∀ c b l, Q c (ix2 b l) = ((qr b l : ℝ) : EReal)) (hk : ∀ c i l, K c (ix2 i l) = ((kr c i l : ℝ) : EReal))
    (c : Dev nD) (b h : Fin 16) (d : Fin 64)
    (hb : ∀ b j, Live (ln (ix2 b 0)) j → (bt (ix2 b j)).toNat < 256)
    (hpos : 0 < Softmax.total (scoreOf qr (kr c) b h) (scoreOf qr (kr (peer c)) b h) (count bt ln (half c) b) (count bt ln (half (peer c)) b)) :
    outAt (F := Ideal) (fun c => accAt c (Q c) (K c) (V c) (B c) (L c)) (fun c => statAt c (Q c) (K c) (B c) (L c)) c (ix2 b (lane h d))
      = (∑ i, count bt ln (half c) b i • ((V c (ix2 i (lane h d)) : EReal) * ((Real.exp (scoreOf qr (kr c) b h i)
            / Softmax.total (scoreOf qr (kr c) b h) (scoreOf qr (kr (peer c)) b h) (count bt ln (half c) b) (count bt ln (half (peer c)) b) : ℝ) : EReal)))
        + ∑ i, count bt ln (half (peer c)) b i • ((V (peer c) (ix2 i (lane h d)) : EReal) * ((Real.exp (scoreOf qr (kr (peer c)) b h i)
            / Softmax.total (scoreOf qr (kr c) b h) (scoreOf qr (kr (peer c)) b h) (count bt ln (half c) b) (count bt ln (half (peer c)) b) : ℝ) : EReal)) := by
  have hw : ∀ e b i, wAt (F := Ideal) e bt ln (ix2 b i) = (((count bt ln (half e) b i : ℕ) : ℝ) : EReal) := fun e b i => wAt_apply e bt ln b i (hb b)
  obtain ⟨M, hM⟩ := hM_real (Q c) (K c) qr (kr c) (hq c) (hk c) h b
  obtain ⟨M', hM'⟩ := hM_real (Q (peer c)) (K (peer c)) qr (kr (peer c)) (hq _) (hk _) h b
  have hmax : max ((M : ℝ) : EReal) ((M' : ℝ) : EReal) = ((max M M' : ℝ) : EReal) := (EReal.coe_strictMono.monotone.map_max).symm
  unfold outAt
  simp only [hB, hL]
  refine (combined_apply _ _ b h d M M'
    (∑ i, ((Real.exp (scoreOf qr (kr c) b h i - M) * count bt ln (half c) b i : ℝ) : EReal))
    (∑ i, ((Real.exp (scoreOf qr (kr (peer c)) b h i - M') * count bt ln (half (peer c)) b i : ℝ) : EReal)) ?_ ?_ ?_ ?_).trans ?_
  · exact (statFull_max (wAt c bt ln) _ _ 0 h b).trans hM
  · exact (statFull_max (wAt (peer c) bt ln) _ _ 1 h b).trans hM'
  · exact (statFull_sum (wAt c bt ln) _ _ 0 h b).trans (hL_real (Q c) (K c) qr (kr c) (hq c) (hk c) (wAt c bt ln) _ (hw c) h b M hM)
  · exact (statFull_sum (wAt (peer c) bt ln) _ _ 1 h b).trans (hL_real (Q (peer c)) (K (peer c)) qr (kr (peer c)) (hq _) (hk _) (wAt (peer c) bt ln) _ (hw _) h b M' hM')
  · have g0 : (bothA (accAt (F := Ideal) c (Q c) (K c) (V c) bt ln) (accAt (peer c) (Q (peer c)) (K (peer c)) (V (peer c)) bt ln) (ix4 0 h b d) : EReal)
        = ∑ i, ((Real.exp (scoreOf qr (kr c) b h i - M) * count bt ln (half c) b i : ℝ) : EReal) * V c (ix2 i (lane h d)) :=
      (accFull_apply (wAt c bt ln) _ _ _ 0 h b d).trans (hAcc_real (Q c) (K c) (V c) qr (kr c) (hq c) (hk c) (wAt c bt ln) _ (hw c) h b d M hM)
    have g1 : (bothA (accAt (F := Ideal) c (Q c) (K c) (V c) bt ln) (accAt (peer c) (Q (peer c)) (K (peer c)) (V (peer c)) bt ln) (ix4 1 h b d) : EReal)
        = ∑ i, ((Real.exp (scoreOf qr (kr (peer c)) b h i - M') * count bt ln (half (peer c)) b i : ℝ) : EReal) * V (peer c) (ix2 i (lane h d)) :=
      (accFull_apply (wAt (peer c) bt ln) _ _ _ 1 h b d).trans (hAcc_real (Q (peer c)) (K (peer c)) (V (peer c)) qr (kr (peer c)) (hq _) (hk _) (wAt (peer c) bt ln) _ (hw _) h b d M' hM')
    rw [g0, g1, hmax, Softmax.exp_sub_coe, Softmax.exp_sub_coe]
    exact Softmax.joined (scoreOf qr (kr c) b h) (scoreOf qr (kr (peer c)) b h) (count bt ln (half c) b) (count bt ln (half (peer c)) b)
      (fun i => V c (ix2 i (lane h d))) (fun i => V (peer c) (ix2 i (lane h d))) M M' (max M M') hpos

end Cert.Proof.KernelIdeal

end
-- ==== Proof.Reference.lean ====
/-
# What the reference computes, over the extended reals

The reference's result read at an index: its block table's pages are gathered, its scores taken and scaled, the dead
positions put at minus infinity, and the values weighted by the scores' softmax.
-/
module

public import proofs.«01_k».proof.Proof.Values
public import proofs.«01_k».proof.Proof.Gen.ReferenceIdeal.Run

@[expose] public section

set_option maxRecDepth 16384

noncomputable section

namespace Cert.Proof.ReferenceIdeal

open Cert.ReferenceIdeal Cert.ReferenceIdeal.Gen
open Idealize.ShloMosaic
open Idealize.ShloMosaic.TcCoe
open Cert.Proof.KernelIdeal (Live entry)

/-! ## The gathered pages -/

/-- The reference's gather of whole pages. -/
abbrev pages : GatherDims S256x16x16x64 S16x128x1 S16x128x16x16x64 := gather_S256x16x16x64_S16x128x1_S16x128x16x16x64_234_0_n_n_0_2_1161664

/-- A gathered page is the operand's at the start index, held within the pages. -/
theorem pages_apply {α : Type} (x : S256x16x16x64.Idx → α) (idx : IVec S16x128x1 32) (b : Fin 16) (j : Fin 128) (o h : Fin 16) (d : Fin 64) :
    Host.gather pages x idx (ix5 b j o h d) = x (ix4 ⟨min (idx (ix3 b j 0)).toInt.toNat 255, by omega⟩ o h d) := by
  unfold Host.gather
  refine congrArg x (funext fun a => Fin.ext ?_)
  show pages.start (ix5 b j o h d) idx a + pages.batchCoord (ix5 b j o h d) a + pages.offCoord (ix5 b j o h d) a = _
  rw [GatherDims.batchCoord_eq_zero _ _ _ List.not_mem_nil]
  have hs : ∀ a : Fin 4, a ≠ 0 → pages.start (ix5 b j o h d) idx a = 0 := fun a ha => by
    unfold GatherDims.start
    exact dif_neg fun hm => ha (List.mem_singleton.mp hm)
  fin_cases a
  · rw [GatherDims.offCoord_eq_zero _ _ _ (fun hm => ((GatherDims.mem_sKept _ _).mp hm).1 (List.mem_singleton.mpr rfl))]
    simp only [Nat.add_zero]
    unfold GatherDims.start
    refine (dif_pos (show (0 : Fin 4) ∈ pages.startIndexMap from List.mem_singleton.mpr rfl)).trans ?_
    have hi : pages.siIdx (ix5 b j o h d) ⟨List.idxOf (0 : Fin 4) pages.startIndexMap, List.idxOf_lt_length_iff.2 (List.mem_singleton.mpr rfl)⟩ = ix3 b j 0 := by
      funext e
      refine Fin.ext ?_
      fin_cases e <;> rfl
    refine Eq.trans (congrArg (fun z => min (idx z).toInt.toNat 255) hi) rfl
  · refine (congrArg (· + 0 + pages.offCoord (ix5 b j o h d) 1) (hs 1 (by decide))).trans ?_
    show 0 + 0 + o.val = o.val; omega
  · refine (congrArg (· + 0 + pages.offCoord (ix5 b j o h d) 2) (hs 2 (by decide))).trans ?_
    show 0 + 0 + h.val = h.val; omega
  · refine (congrArg (· + 0 + pages.offCoord (ix5 b j o h d) 3) (hs 3 (by decide))).trans ?_
    show 0 + 0 + d.val = d.val; omega

variable (q : FVec Ideal S16x1x16x64 .bf16) (k v : FVec Ideal S256x16x16x64 .bf16) (bt : Vec Ideal S16x128 .i32) (ln : Vec Ideal S16 .i32)

/-- The block table with its negative entries wrapped round. -/
def starts : IVec S16x128x1 32 := broadcastInDim S16x128x1 ![0, 1] bcast_S16x128_S16x128x1_0_1 (select (cmpi .slt bt (broadcastInDim S16x128 ![] bcast_S_S16x128 (constantI S_ 32 0#32))) (addi bt (broadcastInDim S16x128 ![] bcast_S_S16x128 (constantI S_ 32 256#32))) bt)
/-- The page read for an entry of the block table. -/
def read (b : Fin 16) (j : Fin 128) : Fin 256 := ⟨min (starts bt (ix3 b j 0)).toInt.toNat 255, by omega⟩
/-- The keys, or the values, that a query's block table gathers. -/
def rows (x : FVec Ideal S256x16x16x64 .bf16) : FVec Ideal S16x2048x16x64 .f32 :=
  shapeCast _ (Host.gather pages (extf .f32 x bitsLt_bf16_f32) (starts bt)) shapeCasts_S16x128x16x16x64_S16x2048x16x64

/-- A live entry within the pages is the page read. -/
theorem read_eq (b : Fin 16) (j : Fin 128) (hlt : (bt (ix2 b j)).toNat < 256) : read bt b j = entry (bt (ix2 b j)) := by
  have hi : (bt (ix2 b j)).toInt = (bt (ix2 b j)).toNat := BitVec.toInt_eq_toNat_of_lt (by omega)
  have e : starts bt (ix3 b j 0) = bt (ix2 b j) := by
    pointwise [starts]
    refine if_neg fun hc => ?_
    have hc' := IntOp.cmpi_slt.1 hc
    rw [hi] at hc'
    simp at hc'
    omega
  refine Fin.ext ?_
  show min (starts bt (ix3 b j 0)).toInt.toNat 255 = (bt (ix2 b j)).toNat % 256
  rw [e, hi]
  omega

theorem rows_apply (x : FVec Ideal S256x16x16x64 .bf16) (b : Fin 16) (i : Fin 2048) (h : Fin 16) (d : Fin 64) :
    rows bt x (ix4 b i h d) = x (ix4 (read bt b (Softmax.pg i)) (Softmax.off i) h d) := by
  pointwise [rows]
  exact pages_apply _ _ _ _ _ _ _

/-! ## The mask -/

/-- The page of each key. -/
def pageOf : IVec S2048 32 := select (andi (cmpi .ne (signi (iotaInDim S2048 32 0)) (broadcastInDim S2048 ![] bcast_S_S2048 (signi (id (constantI S_ 32 16#32))))) (cmpi .ne (Host.remsi (iotaInDim S2048 32 0) (broadcastInDim S2048 ![] bcast_S_S2048 (id (constantI S_ 32 16#32)))) (broadcastInDim S2048 ![] bcast_S_S2048 (constantI S_ 32 0#32)))) (subi (Host.divsi (iotaInDim S2048 32 0) (broadcastInDim S2048 ![] bcast_S_S2048 (id (constantI S_ 32 16#32)))) (broadcastInDim S2048 ![] bcast_S_S2048 (constantI S_ 32 1#32))) (Host.divsi (iotaInDim S2048 32 0) (broadcastInDim S2048 ![] bcast_S_S2048 (id (constantI S_ 32 16#32))))
theorem pageOf_apply (i : Fin 2048) : pageOf (ix1 i) = BitVec.ofNat 32 (Softmax.pg i).val := by
  revert i; decide +kernel

/-- Where a query's positions are live. -/
def mask : IVec S16x16x1x2048 1 := broadcastInDim S16x16x1x2048 ![0, 1, 2, 3] bcast_S16x1x1x2048_S16x16x1x2048_0_1_2_3 (broadcastInDim S16x1x1x2048 ![0, 3] bcast_S16x2048_S16x1x1x2048_0_3 (cmpi .slt (broadcastInDim S16x2048 ![0, 1] bcast_S1x2048_S16x2048_0_1 (broadcastInDim S1x2048 ![1] bcast_S2048_S1x2048_1 pageOf)) (broadcastInDim S16x2048 ![0, 1] bcast_S16x1_S16x2048_0_1 (broadcastInDim S16x1 ![0] bcast_S16_S16x1_0 ln))))
theorem mask_apply (b h : Fin 16) (i : Fin 2048) : mask ln (ix4 b h 0 i) = IntOp.cmpi .slt (BitVec.ofNat 32 (Softmax.pg i).val) (ln (ix1 b)) := by
  pointwise [mask]
  rw [pageOf_apply]

/-! ## The scores and the result -/

/-- The scaled scores. -/
def scores : FVec Ideal S16x16x1x2048 .f32 := mulf (Host.dotGeneral dot_S16x1x16x64_S16x2048x16x64_S16x16x1x2048_3_3_1_1_02_02 none (extf .f32 q bitsLt_bf16_f32) (rows bt k)) (broadcastInDim S16x16x1x2048 ![] bcast_S_S16x16x1x2048 (constant S_ .f32 0x3E000000#32))
/-- The scores with the dead positions at minus infinity. -/
def masked : FVec Ideal S16x16x1x2048 .f32 := select (mask ln) (scores q k bt) (broadcastInDim S16x16x1x2048 ![] bcast_S_S16x16x1x2048 (id (constant S_ .f32 0xFF800000#32)))
/-- Each row's maximum. -/
def maxima : FVec Ideal S16x16x1 .f32 := Host.reduce FloatOps.maximumf (masked q k bt ln) (constant S_ .f32 0xFF800000#32) reducesTo_S16x16x1x2048_S16x16x1_d3 h_S_
/-- The exponentials. -/
def exps : FVec Ideal S16x16x1x2048 .f32 := Host.exp (subf (masked q k bt ln) (broadcastInDim S16x16x1x2048 ![0, 1, 2, 3] bcast_S16x16x1x1_S16x16x1x2048_0_1_2_3 (broadcastInDim S16x16x1x1 ![0, 1, 2] bcast_S16x16x1_S16x16x1x1_0_1_2 (maxima q k bt ln))))
/-- Each row's sum. -/
def sums : FVec Ideal S16x16x1 .f32 := Host.reduceAdd (exps q k bt ln) (constant S_ .f32 0x00000000#32) reducesTo_S16x16x1x2048_S16x16x1_d3 h_S_
/-- The softmax. -/
def weights : FVec Ideal S16x16x1x2048 .f32 := Host.divf (exps q k bt ln) (broadcastInDim S16x16x1x2048 ![0, 1, 2, 3] bcast_S16x16x1x1_S16x16x1x2048_0_1_2_3 (broadcastInDim S16x16x1x1 ![0, 1, 2] bcast_S16x16x1_S16x16x1x1_0_1_2 (sums q k bt ln)))
/-- The result. -/
def attended : FVec Ideal S16x1x16x64 .f32 := transpose S16x1x16x64 [0, 3, 1, 2] (Host.dotGeneral dot_S16x2048x16x64_S16x16x1x2048_S16x16x64x1_1_3_3_2_02_01 none (rows bt v) (weights q k bt ln)) transposes_S16x16x64x1_S16x1x16x64_0_3_1_2

theorem scores_apply (b h : Fin 16) (i : Fin 2048) :
    scores q k bt (ix4 b h 0 i) = (∑ d : Fin 64, q (ix4 b 0 h d) * rows bt k (ix4 b i h d)) * Ideal.ofBits .f32 0x3E000000#32 := by
  pointwise [scores]
theorem masked_apply (b h : Fin 16) (i : Fin 2048) :
    masked q k bt ln (ix4 b h 0 i) = if Live (ln (ix1 b)) (Softmax.pg i) then scores q k bt (ix4 b h 0 i) else ⊥ := by
  pointwise [masked]
  refine (congrArg (Scalar.select _ _) Cert.Proof.KernelIdeal.bits_bot).trans ?_
  rw [mask_apply]
  rfl
theorem maxima_apply (b h : Fin 16) :
    maxima q k bt ln (ix3 b h 0) = (Finset.univ : Finset (Fin 2048)).fold max ⊥ fun i => masked q k bt ln (ix4 b h 0 i) := by
  pointwise [maxima]
  rw [Cert.Proof.KernelIdeal.bits_bot]
theorem exps_apply (b h : Fin 16) (i : Fin 2048) :
    exps q k bt ln (ix4 b h 0 i) = Ideal.exp (masked q k bt ln (ix4 b h 0 i) - maxima q k bt ln (ix3 b h 0)) := by
  pointwise [exps]
theorem sums_apply (b h : Fin 16) : sums q k bt ln (ix3 b h 0) = 0 + ∑ i : Fin 2048, exps q k bt ln (ix4 b h 0 i) := by
  pointwise [sums]
theorem weights_apply (b h : Fin 16) (i : Fin 2048) :
    weights q k bt ln (ix4 b h 0 i) = Ideal.div (exps q k bt ln (ix4 b h 0 i)) (sums q k bt ln (ix3 b h 0)) := by
  pointwise [weights]
theorem attended_apply (b h : Fin 16) (d : Fin 64) :
    attended q k v bt ln (ix4 b 0 h d) = ∑ i : Fin 2048, rows bt v (ix4 b i h d) * weights q k bt ln (ix4 b h 0 i) := by
  pointwise [attended]

/-- The reference's run ends at that result. -/
theorem res_eq (m : (ℓ : Loc nD τ sig) → Buf (Elt Ideal) ℓ) (c : Dev nD) :
    Value.res_out0 (F := Ideal) m c = attended (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v41
  rfl

end Cert.Proof.ReferenceIdeal

end
-- ==== Proof.Given.lean ====
/-
# What the precondition says

Read at an index: the queries and the keys are real, every query has at least one page, and a live entry of the block table
names one of the pages.
-/
module

public import proofs.«01_k».proof.Proof.Count
public import proofs.«01_k».proof.Proof.Gen.Pre_served_KernelIdeal
public import Idealize.ShloMosaic.Lib.Layout

@[expose] public section

set_option maxRecDepth 16384

noncomputable section

namespace Cert.Proof.Given

open Cert.Pre_served_KernelIdeal Cert.Pre_served_KernelIdeal.Gen
open Idealize.ShloMosaic
open Idealize.ShloMosaic.TcCoe
open Cert.Proof.KernelIdeal (Live half)

/-- A magnitude below infinity is a real one. -/
theorem real_of_abs {x : EReal} (h : BitVec.ofBool (decide ((FloatOps.absf (F := Ideal) (φ := .bf16) x : EReal) < Ideal.ofBits .bf16 0x7F80#16)) = 1#1) :
    x ≠ ⊤ ∧ x ≠ ⊥ := by
  have hinf : Ideal.ofBits .bf16 0x7F80#16 = ⊤ := by simp [Ideal.ofBits, Ideal.ieee]
  rw [hinf] at h
  have h' : max x (-x) < ⊤ := by
    by_contra hn
    rw [decide_eq_false (show ¬ (FloatOps.absf (F := Ideal) (φ := .bf16) x : EReal) < ⊤ from hn)] at h
    exact absurd h (by decide)
  refine ⟨fun e => ?_, fun e => ?_⟩
  · subst e; simp at h'
  · subst e; simp at h'

variable (q : FVec Ideal S16x1x16x64 .bf16) (k v : FVec Ideal S128x16x16x64 .bf16) (bt : IVec S16x128 32) (ln : IVec S16 32)

theorem queries_real (h : (fn (F := Ideal) q k v bt ln).1 = fun _ => 1#1) (b h' : Fin 16) (d : Fin 64) :
    q (ix4 b 0 h' d) ≠ (⊤ : EReal) ∧ q (ix4 b 0 h' d) ≠ (⊥ : EReal) := by
  have e := congrFun h (ix4 b 0 h' d)
  unfold fn fn_part1 at e
  dsimp only at e
  revert e
  pointwise []
  exact real_of_abs

theorem keys_real (h : (fn (F := Ideal) q k v bt ln).2.1 = fun _ => 1#1) (p : Fin 128) (o h' : Fin 16) (d : Fin 64) :
    k (ix4 p o h' d) ≠ (⊤ : EReal) ∧ k (ix4 p o h' d) ≠ (⊥ : EReal) := by
  have e := congrFun h (ix4 p o h' d)
  unfold fn fn_part1 at e
  dsimp only at e
  revert e
  pointwise []
  exact real_of_abs

theorem first_live (h : (fn (F := Ideal) q k v bt ln).2.2.1 = fun _ => 1#1) (b : Fin 16) : Live (ln (ix1 b)) 0 := by
  have e := congrFun h (ix1 b)
  unfold fn fn_part1 at e
  dsimp only at e
  revert e
  pointwise []
  intro e
  have e' := IntOp.cmpi_sge.1 e
  refine IntOp.cmpi_slt.2 (lt_of_lt_of_le ?_ e')
  decide

theorem entry_lt (h : (fn (F := Ideal) q k v bt ln).2.2.2 = fun _ => 1#1) (b : Fin 16) (j : Fin 128) (hl : Live (ln (ix1 b)) j) :
    (bt (ix2 b j)).toNat < 256 := by
  have e := congrFun h (ix2 b j)
  unfold fn fn_part1 fn_where at e
  dsimp only at e
  revert e
  pointwise []
  intro e
  have e1 := (if_pos hl).symm.trans e
  obtain ⟨h1, h2⟩ := IntOp.andi_eq_one.1 e1
  have h1' := IntOp.cmpi_sge.1 h1
  have h2' := IntOp.cmpi_slt.1 h2
  generalize bt (ix2 b j) = x at h1' h2'
  change (0 : ℤ) ≤ x.toInt at h1'
  change x.toInt < (256 : ℤ) at h2'
  rw [BitVec.toInt_eq_toNat_cond] at h1' h2'
  split_ifs at h1' h2' <;> omega

/-- A device's block of the pages. -/
theorem block_apply {α : Type} (x : (⟨4, ![256, 16, 16, 64]⟩ : Shape).Idx → α) (c : Dev Cert.KernelIdeal.nD) (p : Fin 128) (o h : Fin 16) (d : Fin 64) :
    (Layout.blockN ⟨4, ![128, 16, 16, 64]⟩ ⟨4, ![256, 16, 16, 64]⟩ (Layout.meshBlock [2, 2, 4] ![[0], [], [], []] c) x) (ix4 p o h d)
      = x (ix4 (Softmax.page (half c) p) o h d) := by
  rw [Layout.blockN_apply]
  refine congrArg x (funext fun a => Fin.ext ?_)
  rw [Layout.TilesN.idx_val]
  fin_cases a
  · have hc : ((Layout.meshBlock [2, 2, 4] ![[0], [], [], []] c) (0 : Fin 4)).val = c.val / 8 := by revert c; decide
    show ((Layout.meshBlock [2, 2, 4] ![[0], [], [], []] c) (0 : Fin 4)).val * 128 + p.val = 128 * (c.val / 8) + p.val
    rw [hc]; omega
  · show 0 * 16 + o.val = o.val; omega
  · show 0 * 16 + h.val = h.val; omega
  · show 0 * 64 + d.val = d.val; omega

/-- Every page lies in some device's block. -/
theorem page_held (g : Fin 256) : ∃ (c : Dev Cert.KernelIdeal.nD) (p : Fin 128), Softmax.page (half c) p = g := by
  by_cases hg : g.val < 128
  · refine ⟨⟨0, by decide⟩, ⟨g.val, hg⟩, Fin.ext ?_⟩
    show 128 * 0 + g.val = g.val; omega
  · refine ⟨⟨8, by decide⟩, ⟨g.val - 128, by omega⟩, Fin.ext ?_⟩
    show 128 * 1 + (g.val - 128) = g.val; omega

end Cert.Proof.Given

end
-- ==== Proof.Equation.lean ====
/-
# The kernel's result is the reference's

Under the precondition, every device's result is, at each lane of each head, the reference's softmax over the query's live
positions: the positions grouped by the page that they name are the device's own keys and the far ones.
-/
module

public import proofs.«01_k».proof.Proof.Launch
public import proofs.«01_k».proof.Proof.Result
public import proofs.«01_k».proof.Proof.Reference
public import proofs.«01_k».proof.Proof.Given

@[expose] public section

set_option maxRecDepth 16384

noncomputable section

namespace Cert.Proof.Equation

open Idealize.ShloMosaic
open Idealize.ShloMosaic.TcCoe
open Cert.Proof.KernelIdeal (Live entry half peer lane score scoreOf)

/-- The whole arrays. -/
abbrev Queries := FVec Ideal ⟨4, ![16, 1, 16, 64]⟩ .bf16
abbrev Pages := FVec Ideal ⟨4, ![256, 16, 16, 64]⟩ .bf16
abbrev Table := Vec Ideal ⟨2, ![16, 128]⟩ .i32
abbrev Lengths := Vec Ideal ⟨1, ![16]⟩ .i32

variable (q : Queries) (k v : Pages) (bt : Table) (ln : Lengths)

/-- The score of a query's head against a place of a page. -/
def against (b h : Fin 16) (g : Fin 256) (o : Fin 16) : ℝ :=
  score (fun d => (q (ix4 b 0 h d) : EReal).toReal) fun d => (k (ix4 g o h d) : EReal).toReal
/-- The page that a query's table names. -/
def table (b : Fin 16) (j : Fin 128) : Fin 256 := entry (bt (ix2 b j))
/-- The softmax's normalizer. -/
def normal (b h : Fin 16) : ℝ :=
  ∑ i : Fin 2048, if Live (ln (ix1 b)) (Softmax.pg i) then Real.exp (against q k b h (table bt b (Softmax.pg i)) (Softmax.off i)) else 0
/-- A value of a page under its softmax weight. -/
def weighed (b h : Fin 16) (d : Fin 64) (g : Fin 256) (o : Fin 16) : EReal :=
  (v (ix4 g o h d) : EReal) * ((Real.exp (against q k b h g o) / normal q k bt ln b h : ℝ) : EReal)

variable (hq : ∀ b h d, q (ix4 b 0 h d) ≠ (⊤ : EReal) ∧ q (ix4 b 0 h d) ≠ (⊥ : EReal))
  (hk : ∀ g o h d, k (ix4 g o h d) ≠ (⊤ : EReal) ∧ k (ix4 g o h d) ≠ (⊥ : EReal))
  (h0 : ∀ b, Live (ln (ix1 b)) 0) (hlt : ∀ b j, Live (ln (ix1 b)) j → (bt (ix2 b j)).toNat < 256)

include h0 in
theorem normal_pos (b h : Fin 16) : 0 < normal q k bt ln b h := by
  unfold normal
  refine Finset.sum_pos' (fun i _ => ?_) ⟨0, Finset.mem_univ _, ?_⟩
  · split_ifs
    · exact (Real.exp_pos _).le
    · exact le_rfl
  · rw [if_pos (show Live (ln (ix1 b)) (Softmax.pg 0) from h0 b)]
    exact Real.exp_pos _

/-! ## The reference -/

include hq hk h0 hlt in
theorem reference_apply (b h : Fin 16) (d : Fin 64) :
    ReferenceIdeal.attended q k v bt ln (ix4 b 0 h d)
      = ∑ i : Fin 2048, if Live (ln (ix1 b)) (Softmax.pg i) then weighed q k v bt ln b h d (table bt b (Softmax.pg i)) (Softmax.off i) else 0 := by
  have hread : ∀ i : Fin 2048, Live (ln (ix1 b)) (Softmax.pg i) → ReferenceIdeal.read bt b (Softmax.pg i) = table bt b (Softmax.pg i) :=
    fun i hl => ReferenceIdeal.read_eq bt b _ (hlt b _ hl)
  have hs : ∀ i : Fin 2048, ReferenceIdeal.masked q k bt ln (ix4 b h 0 i)
      = if Live (ln (ix1 b)) (Softmax.pg i) then ((against q k b h (table bt b (Softmax.pg i)) (Softmax.off i) : ℝ) : EReal) else ⊥ := fun i => by
    rw [ReferenceIdeal.masked_apply]
    refine if_ctx_congr Iff.rfl (fun hl => ?_) fun _ => rfl
    rw [ReferenceIdeal.scores_apply, KernelIdeal.eighth_full]
    have e : ∀ d' : Fin 64, (q (ix4 b 0 h d') * ReferenceIdeal.rows bt k (ix4 b i h d') : EReal)
        = (((q (ix4 b 0 h d') : EReal).toReal * (k (ix4 (table bt b (Softmax.pg i)) (Softmax.off i) h d') : EReal).toReal : ℝ) : EReal) := fun d' => by
      rw [ReferenceIdeal.rows_apply, hread i hl, EReal.coe_mul, EReal.coe_toReal (hq b h d').1 (hq b h d').2,
        EReal.coe_toReal (hk _ _ h d').1 (hk _ _ h d').2]
    simp only [e, ← Softmax.coe_sum, ← EReal.coe_mul]
    rfl
  obtain ⟨M, hM⟩ : ∃ M : ℝ, ReferenceIdeal.maxima q k bt ln (ix3 b h 0) = (M : EReal) := by
    rw [ReferenceIdeal.maxima_apply]
    refine KernelIdeal.fold_real _ (fun i => ?_) 0 ?_
    · rw [hs]; split_ifs
      · exact EReal.coe_ne_top _
      · exact bot_ne_top
    · rw [hs, if_pos (show Live (ln (ix1 b)) (Softmax.pg 0) from h0 b)]; exact EReal.coe_ne_bot _
  have he : ∀ i : Fin 2048, ReferenceIdeal.exps q k bt ln (ix4 b h 0 i)
      = Ideal.exp ((if Live (ln (ix1 b)) (Softmax.pg i) then ((against q k b h (table bt b (Softmax.pg i)) (Softmax.off i) : ℝ) : EReal) else ⊥) - (M : EReal)) :=
    fun i => by rw [ReferenceIdeal.exps_apply, hs, hM]
  rw [ReferenceIdeal.attended_apply]
  simp only [ReferenceIdeal.weights_apply, ReferenceIdeal.sums_apply, he]
  refine (Softmax.at_once (fun i : Fin 2048 => Live (ln (ix1 b)) (Softmax.pg i))
    (fun i => against q k b h (table bt b (Softmax.pg i)) (Softmax.off i)) (fun i => ReferenceIdeal.rows bt v (ix4 b i h d)) M
    (normal_pos q k bt ln h0 b h)).trans ?_
  refine Finset.sum_congr rfl fun i _ => if_ctx_congr Iff.rfl (fun hl => ?_) fun _ => rfl
  rw [ReferenceIdeal.rows_apply, hread i hl]
  rfl

/-! ## The kernel -/

/-- A sum over the two halves, from either. -/
theorem halves {M : Type*} [AddCommMonoid M] (f : Fin 2 → M) (c : Dev Cert.KernelIdeal.nD) : f (half c) + f (half (peer c)) = f 0 + f 1 := by
  have hh : ∀ c : Dev Cert.KernelIdeal.nD, half c = 0 ∧ half (peer c) = 1 ∨ half c = 1 ∧ half (peer c) = 0 := by decide
  rcases hh c with ⟨e, e'⟩ | ⟨e, e'⟩
  · rw [e, e']
  · rw [e, e', add_comm]

/-- A lane's head and its place there. -/
def headOf (l : Fin 1024) : Fin 16 := ⟨l.val / 64, by omega⟩
def placeOf (l : Fin 1024) : Fin 64 := ⟨l.val % 64, Nat.mod_lt _ (by decide)⟩
theorem headOf_lane (h : Fin 16) (d : Fin 64) : headOf (lane h d) = h := Fin.ext (by show (64 * h.val + d.val) / 64 = h.val; omega)
theorem placeOf_lane (h : Fin 16) (d : Fin 64) : placeOf (lane h d) = d := Fin.ext (by show (64 * h.val + d.val) % 64 = d.val; omega)

section
open Cert.KernelIdeal Cert.KernelIdeal.Gen

theorem queries_apply (b : Fin 16) (l : Fin 1024) :
    shapeCast S16x1024 q shapeCasts_S16x1x16x64_S16x1024 (ix2 b l) = q (ix4 b 0 (headOf l) (placeOf l)) := by
  pointwise []
  rfl
theorem block_lane (x : FVec Ideal S128x16x16x64 .bf16) (i : Fin 2048) (l : Fin 1024) :
    shapeCast S2048x1024 x shapeCasts_S128x16x16x64_S2048x1024 (ix2 i l) = x (ix4 (Softmax.pg i) (Softmax.off i) (headOf l) (placeOf l)) := by
  pointwise []
  rfl
theorem lengths_apply (b : Fin 16) : shapeCast S16x1 ln shapeCasts_S16_S16x1 (ix2 b 0) = ln (ix1 b) := by
  pointwise []
theorem result_lane (x : FVec Ideal S16x1024 .f32) (b h : Fin 16) (d : Fin 64) :
    shapeCast S16x1x16x64 x shapeCasts_S16x1024_S16x1x16x64 (ix4 b 0 h d) = x (ix2 b (lane h d)) := by
  pointwise []
  exact congrArg (fun l => x (ix2 b l)) (Fin.ext (show h.val * 64 + d.val = 64 * h.val + d.val by omega))

variable (m : (ℓ : Loc nD τ sig) → Buf (Elt Ideal) ℓ)
  (a0 : ∀ c : Dev nD, m ((c.tc : Thread nD τ).loc main_arg0) = q)
  (a1 : ∀ (c : Dev nD) (p : Fin 128) (o h : Fin 16) (d : Fin 64),
    m ((c.tc : Thread nD τ).loc main_arg1) (ix4 p o h d : S128x16x16x64.Idx) = k (ix4 (Softmax.page (half c) p) o h d))
  (a2 : ∀ (c : Dev nD) (p : Fin 128) (o h : Fin 16) (d : Fin 64),
    m ((c.tc : Thread nD τ).loc main_arg2) (ix4 p o h d : S128x16x16x64.Idx) = v (ix4 (Softmax.page (half c) p) o h d))
  (a3 : ∀ c : Dev nD, m ((c.tc : Thread nD τ).loc main_arg3) = bt)
  (a4 : ∀ c : Dev nD, m ((c.tc : Thread nD τ).loc main_arg4) = ln)

include a1 in
theorem keys_lane (c : Dev nD) (i : Fin 2048) (l : Fin 1024) :
    KernelIdeal.inK m c (ix2 i l) = k (ix4 (Softmax.page (half c) (Softmax.pg i)) (Softmax.off i) (headOf l) (placeOf l)) := by
  rw [KernelIdeal.inK_eq, block_lane, a1]
include a2 in
theorem values_lane (c : Dev nD) (i : Fin 2048) (l : Fin 1024) :
    KernelIdeal.inV m c (ix2 i l) = v (ix4 (Softmax.page (half c) (Softmax.pg i)) (Softmax.off i) (headOf l) (placeOf l)) := by
  rw [KernelIdeal.inV_eq, block_lane, a2]

/-- The queries and a device's keys as real numbers. -/
def queriesReal (b : Fin 16) (l : Fin 1024) : ℝ := (q (ix4 b 0 (headOf l) (placeOf l)) : EReal).toReal
def keysReal (c : Dev nD) (i : Fin 2048) (l : Fin 1024) : ℝ :=
  (k (ix4 (Softmax.page (half c) (Softmax.pg i)) (Softmax.off i) (headOf l) (placeOf l)) : EReal).toReal

theorem scoreOf_eq (c : Dev nD) (b h : Fin 16) (i : Fin 2048) :
    scoreOf (queriesReal q) (keysReal k c) b h i = against q k b h (Softmax.page (half c) (Softmax.pg i)) (Softmax.off i) := by
  unfold scoreOf against queriesReal keysReal
  simp only [headOf_lane, placeOf_lane]

/-- A query's number of pages as the kernel's call takes it. -/
def column : Vec Ideal S16x1 .i32 := shapeCast S16x1 ln shapeCasts_S16_S16x1

theorem count_eq (x : Fin 2) (b : Fin 16) (i : Fin 2048) :
    KernelIdeal.count bt (column ln) x b i = Softmax.named (Live (ln (ix1 b))) (table bt b) x (Softmax.pg i) := by
  have e : column ln (ix2 b 0) = ln (ix1 b) := lengths_apply ln b
  unfold KernelIdeal.count
  rw [e]
  rfl

theorem total_eq (c : Dev nD) (b h : Fin 16) :
    Softmax.total (scoreOf (queriesReal q) (keysReal k c) b h) (scoreOf (queriesReal q) (keysReal k (peer c)) b h)
      (KernelIdeal.count bt (column ln) (half c) b) (KernelIdeal.count bt (column ln) (half (peer c)) b) = normal q k bt ln b h := by
  unfold Softmax.total normal
  simp only [scoreOf_eq, count_eq]
  rw [Softmax.regroup (M := ℝ) (Live (ln (ix1 b))) (table bt b) fun g o => Real.exp (against q k b h g o)]
  simp only [nsmul_eq_mul, mul_comm (Real.exp _)]
  exact halves (fun x => ∑ i : Fin 2048, (Softmax.named (Live (ln (ix1 b))) (table bt b) x (Softmax.pg i) : ℝ)
    * Real.exp (against q k b h (Softmax.page x (Softmax.pg i)) (Softmax.off i))) c

include hq hk h0 hlt a0 a1 a2 a3 a4 in
theorem kernel_apply (c : Dev nD) (b h : Fin 16) (d : Fin 64) :
    KernelIdeal.result m c (ix2 b (lane h d))
      = ∑ i : Fin 2048, if Live (ln (ix1 b)) (Softmax.pg i) then weighed q k v bt ln b h d (table bt b (Softmax.pg i)) (Softmax.off i) else 0 := by
  refine (KernelIdeal.out_real (KernelIdeal.inQ m) (KernelIdeal.inK m) (KernelIdeal.inV m) (KernelIdeal.inB m) (KernelIdeal.inL m) bt (column ln)
    (fun c => (KernelIdeal.inB_eq m c).trans (a3 c)) (fun c => (KernelIdeal.inL_eq m c).trans (by rw [a4]; rfl)) (queriesReal q) (keysReal k)
    (fun c b l => ?_) (fun c i l => ?_) c b h d (fun b j hl => hlt b j (by rwa [show column ln (ix2 b 0) = ln (ix1 b) from lengths_apply ln b] at hl)) ?_).trans ?_
  · rw [KernelIdeal.inQ_eq, queries_apply, a0]
    exact (EReal.coe_toReal (hq _ _ _).1 (hq _ _ _).2).symm
  · rw [keys_lane k m a1]
    exact (EReal.coe_toReal (hk _ _ _ _).1 (hk _ _ _ _).2).symm
  · rw [total_eq]
    exact normal_pos q k bt ln h0 b h
  · rw [total_eq, Softmax.regroup (M := EReal) (Live (ln (ix1 b))) (table bt b) (weighed q k v bt ln b h d)]
    simp only [scoreOf_eq, count_eq, values_lane v m a2, headOf_lane, placeOf_lane]
    exact halves (fun x => ∑ i : Fin 2048, Softmax.named (Live (ln (ix1 b))) (table bt b) x (Softmax.pg i)
      • weighed q k v bt ln b h d (Softmax.page x (Softmax.pg i)) (Softmax.off i)) c

include hq hk h0 hlt a0 a1 a2 a3 a4 in
/-- A device's result is the reference's. -/
theorem results_agree (c : Dev nD) : KernelIdeal.V₃ m c main_v6 = ReferenceIdeal.attended q k v bt ln := by
  rw [KernelIdeal.V₃_v6]
  refine funext fun (i : (⟨4, ![16, 1, 16, 64]⟩ : Shape).Idx) => ?_
  obtain ⟨b, z, h, d, rfl⟩ : ∃ (b : Fin 16) (z : Fin 1) (h : Fin 16) (d : Fin 64), i = ix4 b z h d := ⟨_, _, _, _, eq_ix4 i⟩
  obtain rfl : z = 0 := Subsingleton.elim _ _
  rw [result_lane, kernel_apply q k v bt ln hq hk h0 hlt m a0 a1 a2 a3 a4, reference_apply q k v bt ln hq hk h0 hlt]

end

end Cert.Proof.Equation

end
-- ==== Proof.lean ====
/- The proof of the claims about the paged attention kernel: the frames of the kernel, of its ideal form and of the reference,
   that the ideal form is the kernel, and that over the extended reals the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_served_KernelIdeal
public import proofs.«01_k».proof.Proof.Gen.Pre_served_ReferenceIdeal
public import proofs.«01_k».proof.Proof.Launch
public import proofs.«01_k».proof.Proof.Equation
public import proofs.«01_k».proof.Proof.Printed.Launch
public import Idealize.ShloMosaic.Adequacy
public import Idealize.ShloMosaic.Init

@[expose] public section

noncomputable section

namespace Cert.Proof

open Idealize.ShloMosaic Idealize.SL.Sem

/-- The kernel, its floats being words of bits, ends with its arguments unchanged and every counter at zero: its run, with
    what it computes dropped. -/
theorem frame_kernel : Cert.quiescent_Kernel := fun m ρ _ =>
  (θ_run Cert.Kernel.defs _ _).mono (fun _ h =>
    ⟨fun c => ⟨(h.1 c).2.1.trans (Kernel.V₃_arg0 m c), (h.1 c).2.2.1.trans (Kernel.V₃_arg1 m c),
      (h.1 c).2.2.2.1.trans (Kernel.V₃_arg2 m c), (h.1 c).2.2.2.2.1.trans (Kernel.V₃_arg3 m c),
      (h.1 c).2.2.2.2.2.trans (Kernel.V₃_arg4 m c)⟩, h.2⟩) (Kernel.run_main (F := Bits) m ρ)

/-- The ideal form of the kernel ends with its arguments unchanged and every counter at zero. -/
theorem frame_kernelIdeal : Cert.quiescent_KernelIdeal := fun m ρ _ =>
  (θ_run Cert.KernelIdeal.defs _ _).mono (fun _ h =>
    ⟨fun c => ⟨(h.1 c).2.1.trans (KernelIdeal.V₃_arg0 m c), (h.1 c).2.2.1.trans (KernelIdeal.V₃_arg1 m c),
      (h.1 c).2.2.2.1.trans (KernelIdeal.V₃_arg2 m c), (h.1 c).2.2.2.2.1.trans (KernelIdeal.V₃_arg3 m c),
      (h.1 c).2.2.2.2.2.trans (KernelIdeal.V₃_arg4 m c)⟩, h.2⟩) (KernelIdeal.run_main (F := Ideal) m ρ)

/-- The reference is host code alone: it declares no counter, and its run leaves its arguments unchanged. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, from a served batch, every device ends with the reference's result. -/
theorem equal_results : Cert.algebraic_KernelIdeal_ReferenceIdeal_pre_served_KernelIdeal := by
  intro m ρ m' ρ' hpre hargs
  have hq : ∀ b h d, _ := fun b h d => Given.queries_real _ _ _ _ _ (hpre 0).1 b h d
  have hk : ∀ c p o h d, _ := fun c p o h d => Given.keys_real _ _ _ _ _ (hpre c).2.1 p o h d
  have h0 : ∀ b, _ := fun b => Given.first_live _ _ _ _ _ (hpre 0).2.2.1 b
  have hlt : ∀ b j hl, _ := fun b j hl => Given.entry_lt _ _ _ _ _ (hpre 0).2.2.2 b j hl
  rw [(hargs 0).1] at hq
  rw [(hargs 0).2.2.2.2] at h0 hlt
  rw [(hargs 0).2.2.2.1] at hlt
  have agree : ∀ c, _ := fun c => Equation.results_agree _ _ _ _ _ hq (fun g o h d => by
      obtain ⟨c, p, rfl⟩ := Given.page_held g
      have e := hk c p o h d
      rw [(hargs c).2.1] at e
      rwa [Given.block_apply] at e) h0 hlt m
    (fun c => (hargs c).1) (fun c p o h d => by rw [(hargs c).2.1]; exact Given.block_apply _ c p o h d) (fun c p o h d => by rw [(hargs c).2.2.1]; exact Given.block_apply _ c p o h d) (fun c => (hargs c).2.2.2.1) (fun c => (hargs c).2.2.2.2) c
  refine ⟨_, (θ_run Cert.KernelIdeal.defs _ _).mono (fun _ h c =>
      ⟨((h.1 c).1.trans (agree c)).trans (ReferenceIdeal.res_eq m' 0).symm, (h.1 c).2.1.trans (KernelIdeal.V₃_arg0 m c), (h.1 c).2.2.1.trans (KernelIdeal.V₃_arg1 m c),
        (h.1 c).2.2.2.1.trans (KernelIdeal.V₃_arg2 m c), (h.1 c).2.2.2.2.1.trans (KernelIdeal.V₃_arg3 m c),
        (h.1 c).2.2.2.2.2.trans (KernelIdeal.V₃_arg4 m c)⟩) (KernelIdeal.run_main (F := Ideal) m ρ),
    (θ_run Cert.ReferenceIdeal.defs _ _).mono (fun _ h => h 0) (Cert.ReferenceIdeal.Value.run (F := Ideal) m' ρ')⟩

/-- The claims of this directory. -/
theorem claim : Cert.Claim :=
  ⟨Cert.Kernel.Gen.facts, Cert.KernelIdeal.Gen.facts, Cert.ReferenceIdeal.Gen.facts, Cert.Pre_served_KernelIdeal.Gen.facts, Cert.Pre_served_ReferenceIdeal.Gen.facts,
    frame_kernel, frame_kernelIdeal, fun m ρ _ => frame_kernelIdeal m ρ trivial, frame_referenceIdeal, fun m ρ _ => frame_referenceIdeal m ρ trivial,
    trivial, equal_results⟩

end Cert.Proof

end
